-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_InprojCtx (m : (ℓ : Loc Cert.InprojCtx.nD Cert.InprojCtx.τ Cert.InprojCtx.sig) → Buf (Elt Bits) ℓ) : Prop :=
  True

def Pre_InprojCtxIdeal (m : (ℓ : Loc Cert.InprojCtxIdeal.nD Cert.InprojCtxIdeal.τ Cert.InprojCtxIdeal.sig) → Buf (Elt Ideal) ℓ) : Prop :=
  True

def Pre_InprojCtxReferenceIdeal (m : (ℓ : Loc Cert.InprojCtxReferenceIdeal.nD Cert.InprojCtxReferenceIdeal.τ Cert.InprojCtxReferenceIdeal.sig) → Buf (Elt Ideal) ℓ) : Prop :=
  True

def Pre_OutprojCtx (m : (ℓ : Loc Cert.OutprojCtx.nD Cert.OutprojCtx.τ Cert.OutprojCtx.sig) → Buf (Elt Bits) ℓ) : Prop :=
  True

def Pre_OutprojCtxIdeal (m : (ℓ : Loc Cert.OutprojCtxIdeal.nD Cert.OutprojCtxIdeal.τ Cert.OutprojCtxIdeal.sig) → Buf (Elt Ideal) ℓ) : Prop :=
  True

def Pre_OutprojCtxReferenceIdeal (m : (ℓ : Loc Cert.OutprojCtxReferenceIdeal.nD Cert.OutprojCtxReferenceIdeal.τ Cert.OutprojCtxReferenceIdeal.sig) → Buf (Elt Ideal) ℓ) : Prop :=
  True

def Pre_InprojLast (m : (ℓ : Loc Cert.InprojLast.nD Cert.InprojLast.τ Cert.InprojLast.sig) → Buf (Elt Bits) ℓ) : Prop :=
  True

def Pre_InprojLastIdeal (m : (ℓ : Loc Cert.InprojLastIdeal.nD Cert.InprojLastIdeal.τ Cert.InprojLastIdeal.sig) → Buf (Elt Ideal) ℓ) : Prop :=
  True

def Pre_InprojLastReferenceIdeal (m : (ℓ : Loc Cert.InprojLastReferenceIdeal.nD Cert.InprojLastReferenceIdeal.τ Cert.InprojLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def quiescent_InprojCtx [hInprojCtx : Cert.InprojCtx.Facts] : Prop :=
  ∀ (m : (ℓ : Loc Cert.InprojCtx.nD Cert.InprojCtx.τ Cert.InprojCtx.sig) → Buf (Elt Bits) ℓ) (g : Dev Cert.InprojCtx.nD → PrngReg), Pre_InprojCtx m →
    θ_run (Cert.InprojCtx.defs (F := Bits)) (onTc (τ := Cert.InprojCtx.τ) (Cert.InprojCtx.main (F := Bits))) ⟨m, fun _ => 0, g⟩ (fun r => (∀ c : Dev Cert.InprojCtx.nD,
      r.2.mem ((c.tc : Thread Cert.InprojCtx.nD Cert.InprojCtx.τ).loc Cert.InprojCtx.main_arg0) = m ((c.tc : Thread Cert.InprojCtx.nD Cert.InprojCtx.τ).loc Cert.InprojCtx.main_arg0)
      ∧ r.2.mem ((c.tc : Thread Cert.InprojCtx.nD Cert.InprojCtx.τ).loc Cert.InprojCtx.main_arg1) = m ((c.tc : Thread Cert.InprojCtx.nD Cert.InprojCtx.τ).loc Cert.InprojCtx.main_arg1)
      ∧ r.2.mem ((c.tc : Thread Cert.InprojCtx.nD Cert.InprojCtx.τ).loc Cert.InprojCtx.main_arg2) = m ((c.tc : Thread Cert.InprojCtx.nD Cert.InprojCtx.τ).loc Cert.InprojCtx.main_arg2)
      ∧ r.2.mem ((c.tc : Thread Cert.InprojCtx.nD Cert.InprojCtx.τ).loc Cert.InprojCtx.main_arg3) = m ((c.tc : Thread Cert.InprojCtx.nD Cert.InprojCtx.τ).loc Cert.InprojCtx.main_arg3))
      ∧ r.2.sem = fun _ => 0)

def quiescent_InprojCtxIdeal [hInprojCtxIdeal : Cert.InprojCtxIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg), Pre_InprojCtxIdeal m →
    θ_run (Cert.InprojCtxIdeal.defs (F := Ideal)) (onTc (τ := Cert.InprojCtxIdeal.τ) (Cert.InprojCtxIdeal.main (F := Ideal))) ⟨m, fun _ => 0, g⟩ (fun r => (∀ c : Dev Cert.InprojCtxIdeal.nD,
      r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
      ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
      ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
      ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3))
      ∧ r.2.sem = fun _ => 0)

def quiescent_InprojCtxReferenceIdeal [hInprojCtxReferenceIdeal : Cert.InprojCtxReferenceIdeal.Facts] : Prop :=
  ∀ (m : (ℓ : Loc Cert.InprojCtxReferenceIdeal.nD Cert.InprojCtxReferenceIdeal.τ Cert.InprojCtxReferenceIdeal.sig) → Buf (Elt Ideal) ℓ) (g : Dev Cert.InprojCtxReferenceIdeal.nD → PrngReg), Pre_InprojCtxReferenceIdeal m →
    θ_run (Cert.InprojCtxReferenceIdeal.defs (F := Ideal)) (onTc (τ := Cert.InprojCtxReferenceIdeal.τ) (Cert.InprojCtxReferenceIdeal.main (F := Ideal))) ⟨m, fun _ => 0, g⟩ (fun r => (∀ c : Dev Cert.InprojCtxReferenceIdeal.nD,
      r.2.mem ((c.tc : Thread Cert.InprojCtxReferenceIdeal.nD Cert.InprojCtxReferenceIdeal.τ).loc Cert.InprojCtxReferenceIdeal.main_arg0) = m ((c.tc : Thread Cert.InprojCtxReferenceIdeal.nD Cert.InprojCtxReferenceIdeal.τ).loc Cert.InprojCtxReferenceIdeal.main_arg0)
      ∧ r.2.mem ((c.tc : Thread Cert.InprojCtxReferenceIdeal.nD Cert.InprojCtxReferenceIdeal.τ).loc Cert.InprojCtxReferenceIdeal.main_arg1) = m ((c.tc : Thread Cert.InprojCtxReferenceIdeal.nD Cert.InprojCtxReferenceIdeal.τ).loc Cert.InprojCtxReferenceIdeal.main_arg1)
      ∧ r.2.mem ((c.tc : Thread Cert.InprojCtxReferenceIdeal.nD Cert.InprojCtxReferenceIdeal.τ).loc Cert.InprojCtxReferenceIdeal.main_arg2) = m ((c.tc : Thread Cert.InprojCtxReferenceIdeal.nD Cert.InprojCtxReferenceIdeal.τ).loc Cert.InprojCtxReferenceIdeal.main_arg2)
      ∧ r.2.mem ((c.tc : Thread Cert.InprojCtxReferenceIdeal.nD Cert.InprojCtxReferenceIdeal.τ).loc Cert.InprojCtxReferenceIdeal.main_arg3) = m ((c.tc : Thread Cert.InprojCtxReferenceIdeal.nD Cert.InprojCtxReferenceIdeal.τ).loc Cert.InprojCtxReferenceIdeal.main_arg3))
      ∧ r.2.sem = fun _ => 0)

def quiescent_OutprojCtx [hOutprojCtx : Cert.OutprojCtx.Facts] : Prop :=
  ∀ (m : (ℓ : Loc Cert.OutprojCtx.nD Cert.OutprojCtx.τ Cert.OutprojCtx.sig) → Buf (Elt Bits) ℓ) (g : Dev Cert.OutprojCtx.nD → PrngReg), Pre_OutprojCtx m →
    θ_run (Cert.OutprojCtx.defs (F := Bits)) (onTc (τ := Cert.OutprojCtx.τ) (Cert.OutprojCtx.main (F := Bits))) ⟨m, fun _ => 0, g⟩ (fun r => (∀ c : Dev Cert.OutprojCtx.nD,
      r.2.mem ((c.tc : Thread Cert.OutprojCtx.nD Cert.OutprojCtx.τ).loc Cert.OutprojCtx.main_arg0) = m ((c.tc : Thread Cert.OutprojCtx.nD Cert.OutprojCtx.τ).loc Cert.OutprojCtx.main_arg0)
      ∧ r.2.mem ((c.tc : Thread Cert.OutprojCtx.nD Cert.OutprojCtx.τ).loc Cert.OutprojCtx.main_arg1) = m ((c.tc : Thread Cert.OutprojCtx.nD Cert.OutprojCtx.τ).loc Cert.OutprojCtx.main_arg1)
      ∧ r.2.mem ((c.tc : Thread Cert.OutprojCtx.nD Cert.OutprojCtx.τ).loc Cert.OutprojCtx.main_arg2) = m ((c.tc : Thread Cert.OutprojCtx.nD Cert.OutprojCtx.τ).loc Cert.OutprojCtx.main_arg2)
      ∧ r.2.mem ((c.tc : Thread Cert.OutprojCtx.nD Cert.OutprojCtx.τ).loc Cert.OutprojCtx.main_arg3) = m ((c.tc : Thread Cert.OutprojCtx.nD Cert.OutprojCtx.τ).loc Cert.OutprojCtx.main_arg3))
      ∧ r.2.sem = fun _ => 0)

def quiescent_OutprojCtxIdeal [hOutprojCtxIdeal : Cert.OutprojCtxIdeal.Facts] : Prop :=
  ∀ (m : (ℓ : Loc Cert.OutprojCtxIdeal.nD Cert.OutprojCtxIdeal.τ Cert.OutprojCtxIdeal.sig) → Buf (Elt Ideal) ℓ) (g : Dev Cert.OutprojCtxIdeal.nD → PrngReg), Pre_OutprojCtxIdeal m →
    θ_run (Cert.OutprojCtxIdeal.defs (F := Ideal)) (onTc (τ := Cert.OutprojCtxIdeal.τ) (Cert.OutprojCtxIdeal.main (F := Ideal))) ⟨m, fun _ => 0, g⟩ (fun r => (∀ c : Dev Cert.OutprojCtxIdeal.nD,
      r.2.mem ((c.tc : Thread Cert.OutprojCtxIdeal.nD Cert.OutprojCtxIdeal.τ).loc Cert.OutprojCtxIdeal.main_arg0) = m ((c.tc : Thread Cert.OutprojCtxIdeal.nD Cert.OutprojCtxIdeal.τ).loc Cert.OutprojCtxIdeal.main_arg0)
      ∧ r.2.mem ((c.tc : Thread Cert.OutprojCtxIdeal.nD Cert.OutprojCtxIdeal.τ).loc Cert.OutprojCtxIdeal.main_arg1) = m ((c.tc : Thread Cert.OutprojCtxIdeal.nD Cert.OutprojCtxIdeal.τ).loc Cert.OutprojCtxIdeal.main_arg1)
      ∧ r.2.mem ((c.tc : Thread Cert.OutprojCtxIdeal.nD Cert.OutprojCtxIdeal.τ).loc Cert.OutprojCtxIdeal.main_arg2) = m ((c.tc : Thread Cert.OutprojCtxIdeal.nD Cert.OutprojCtxIdeal.τ).loc Cert.OutprojCtxIdeal.main_arg2)
      ∧ r.2.mem ((c.tc : Thread Cert.OutprojCtxIdeal.nD Cert.OutprojCtxIdeal.τ).loc Cert.OutprojCtxIdeal.main_arg3) = m ((c.tc : Thread Cert.OutprojCtxIdeal.nD Cert.OutprojCtxIdeal.τ).loc Cert.OutprojCtxIdeal.main_arg3))
      ∧ r.2.sem = fun _ => 0)

def quiescent_OutprojCtxReferenceIdeal [hOutprojCtxReferenceIdeal : Cert.OutprojCtxReferenceIdeal.Facts] : Prop :=
  ∀ (m : (ℓ : Loc Cert.OutprojCtxReferenceIdeal.nD Cert.OutprojCtxReferenceIdeal.τ Cert.OutprojCtxReferenceIdeal.sig) → Buf (Elt Ideal) ℓ) (g : Dev Cert.OutprojCtxReferenceIdeal.nD → PrngReg), Pre_OutprojCtxReferenceIdeal m →
    θ_run (Cert.OutprojCtxReferenceIdeal.defs (F := Ideal)) (onTc (τ := Cert.OutprojCtxReferenceIdeal.τ) (Cert.OutprojCtxReferenceIdeal.main (F := Ideal))) ⟨m, fun _ => 0, g⟩ (fun r => (∀ c : Dev Cert.OutprojCtxReferenceIdeal.nD,
      r.2.mem ((c.tc : Thread Cert.OutprojCtxReferenceIdeal.nD Cert.OutprojCtxReferenceIdeal.τ).loc Cert.OutprojCtxReferenceIdeal.main_arg0) = m ((c.tc : Thread Cert.OutprojCtxReferenceIdeal.nD Cert.OutprojCtxReferenceIdeal.τ).loc Cert.OutprojCtxReferenceIdeal.main_arg0)
      ∧ r.2.mem ((c.tc : Thread Cert.OutprojCtxReferenceIdeal.nD Cert.OutprojCtxReferenceIdeal.τ).loc Cert.OutprojCtxReferenceIdeal.main_arg1) = m ((c.tc : Thread Cert.OutprojCtxReferenceIdeal.nD Cert.OutprojCtxReferenceIdeal.τ).loc Cert.OutprojCtxReferenceIdeal.main_arg1)
      ∧ r.2.mem ((c.tc : Thread Cert.OutprojCtxReferenceIdeal.nD Cert.OutprojCtxReferenceIdeal.τ).loc Cert.OutprojCtxReferenceIdeal.main_arg2) = m ((c.tc : Thread Cert.OutprojCtxReferenceIdeal.nD Cert.OutprojCtxReferenceIdeal.τ).loc Cert.OutprojCtxReferenceIdeal.main_arg2)
      ∧ r.2.mem ((c.tc : Thread Cert.OutprojCtxReferenceIdeal.nD Cert.OutprojCtxReferenceIdeal.τ).loc Cert.OutprojCtxReferenceIdeal.main_arg3) = m ((c.tc : Thread Cert.OutprojCtxReferenceIdeal.nD Cert.OutprojCtxReferenceIdeal.τ).loc Cert.OutprojCtxReferenceIdeal.main_arg3))
      ∧ r.2.sem = fun _ => 0)

def quiescent_InprojLast [hInprojLast : Cert.InprojLast.Facts] : Prop :=
  ∀ (m : (ℓ : Loc Cert.InprojLast.nD Cert.InprojLast.τ Cert.InprojLast.sig) → Buf (Elt Bits) ℓ) (g : Dev Cert.InprojLast.nD → PrngReg), Pre_InprojLast m →
    θ_run (Cert.InprojLast.defs (F := Bits)) (onTc (τ := Cert.InprojLast.τ) (Cert.InprojLast.main (F := Bits))) ⟨m, fun _ => 0, g⟩ (fun r => (∀ c : Dev Cert.InprojLast.nD,
      r.2.mem ((c.tc : Thread Cert.InprojLast.nD Cert.InprojLast.τ).loc Cert.InprojLast.main_arg0) = m ((c.tc : Thread Cert.InprojLast.nD Cert.InprojLast.τ).loc Cert.InprojLast.main_arg0)
      ∧ r.2.mem ((c.tc : Thread Cert.InprojLast.nD Cert.InprojLast.τ).loc Cert.InprojLast.main_arg1) = m ((c.tc : Thread Cert.InprojLast.nD Cert.InprojLast.τ).loc Cert.InprojLast.main_arg1)
      ∧ r.2.mem ((c.tc : Thread Cert.InprojLast.nD Cert.InprojLast.τ).loc Cert.InprojLast.main_arg2) = m ((c.tc : Thread Cert.InprojLast.nD Cert.InprojLast.τ).loc Cert.InprojLast.main_arg2)
      ∧ r.2.mem ((c.tc : Thread Cert.InprojLast.nD Cert.InprojLast.τ).loc Cert.InprojLast.main_arg3) = m ((c.tc : Thread Cert.InprojLast.nD Cert.InprojLast.τ).loc Cert.InprojLast.main_arg3))
      ∧ r.2.sem = fun _ => 0)

def quiescent_InprojLastIdeal [hInprojLastIdeal : Cert.InprojLastIdeal.Facts] : Prop :=
  ∀ (m : (ℓ : Loc Cert.InprojLastIdeal.nD Cert.InprojLastIdeal.τ Cert.InprojLastIdeal.sig) → Buf (Elt Ideal) ℓ) (g : Dev Cert.InprojLastIdeal.nD → PrngReg), Pre_InprojLastIdeal m →
    θ_run (Cert.InprojLastIdeal.defs (F := Ideal)) (onTc (τ := Cert.InprojLastIdeal.τ) (Cert.InprojLastIdeal.main (F := Ideal))) ⟨m, fun _ => 0, g⟩ (fun r => (∀ c : Dev Cert.InprojLastIdeal.nD,
      r.2.mem ((c.tc : Thread Cert.InprojLastIdeal.nD Cert.InprojLastIdeal.τ).loc Cert.InprojLastIdeal.main_arg0) = m ((c.tc : Thread Cert.InprojLastIdeal.nD Cert.InprojLastIdeal.τ).loc Cert.InprojLastIdeal.main_arg0)
      ∧ r.2.mem ((c.tc : Thread Cert.InprojLastIdeal.nD Cert.InprojLastIdeal.τ).loc Cert.InprojLastIdeal.main_arg1) = m ((c.tc : Thread Cert.InprojLastIdeal.nD Cert.InprojLastIdeal.τ).loc Cert.InprojLastIdeal.main_arg1)
      ∧ r.2.mem ((c.tc : Thread Cert.InprojLastIdeal.nD Cert.InprojLastIdeal.τ).loc Cert.InprojLastIdeal.main_arg2) = m ((c.tc : Thread Cert.InprojLastIdeal.nD Cert.InprojLastIdeal.τ).loc Cert.InprojLastIdeal.main_arg2)
      ∧ r.2.mem ((c.tc : Thread Cert.InprojLastIdeal.nD Cert.InprojLastIdeal.τ).loc Cert.InprojLastIdeal.main_arg3) = m ((c.tc : Thread Cert.InprojLastIdeal.nD Cert.InprojLastIdeal.τ).loc Cert.InprojLastIdeal.main_arg3))
      ∧ r.2.sem = fun _ => 0)

def quiescent_InprojLastReferenceIdeal [hInprojLastReferenceIdeal : Cert.InprojLastReferenceIdeal.Facts] : Prop :=
  ∀ (m : (ℓ : Loc Cert.InprojLastReferenceIdeal.nD Cert.InprojLastReferenceIdeal.τ Cert.InprojLastReferenceIdeal.sig) → Buf (Elt Ideal) ℓ) (g : Dev Cert.InprojLastReferenceIdeal.nD → PrngReg), Pre_InprojLastReferenceIdeal m →
    θ_run (Cert.InprojLastReferenceIdeal.defs (F := Ideal)) (onTc (τ := Cert.InprojLastReferenceIdeal.τ) (Cert.InprojLastReferenceIdeal.main (F := Ideal))) ⟨m, fun _ => 0, g⟩ (fun r => (∀ c : Dev Cert.InprojLastReferenceIdeal.nD,
      r.2.mem ((c.tc : Thread Cert.InprojLastReferenceIdeal.nD Cert.InprojLastReferenceIdeal.τ).loc Cert.InprojLastReferenceIdeal.main_arg0) = m ((c.tc : Thread Cert.InprojLastReferenceIdeal.nD Cert.InprojLastReferenceIdeal.τ).loc Cert.InprojLastReferenceIdeal.main_arg0)
      ∧ r.2.mem ((c.tc : Thread Cert.InprojLastReferenceIdeal.nD Cert.InprojLastReferenceIdeal.τ).loc Cert.InprojLastReferenceIdeal.main_arg1) = m ((c.tc : Thread Cert.InprojLastReferenceIdeal.nD Cert.InprojLastReferenceIdeal.τ).loc Cert.InprojLastReferenceIdeal.main_arg1)
      ∧ r.2.mem ((c.tc : Thread Cert.InprojLastReferenceIdeal.nD Cert.InprojLastReferenceIdeal.τ).loc Cert.InprojLastReferenceIdeal.main_arg2) = m ((c.tc : Thread Cert.InprojLastReferenceIdeal.nD Cert.InprojLastReferenceIdeal.τ).loc Cert.InprojLastReferenceIdeal.main_arg2)
      ∧ r.2.mem ((c.tc : Thread Cert.InprojLastReferenceIdeal.nD Cert.InprojLastReferenceIdeal.τ).loc Cert.InprojLastReferenceIdeal.main_arg3) = m ((c.tc : Thread Cert.InprojLastReferenceIdeal.nD Cert.InprojLastReferenceIdeal.τ).loc Cert.InprojLastReferenceIdeal.main_arg3))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v30) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v12) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6))

def preserves_InprojCtx_InprojCtxIdeal : Prop :=
  True

def algebraic_InprojCtxIdeal_InprojCtxReferenceIdeal [hInprojCtxIdeal : Cert.InprojCtxIdeal.Facts] [hInprojCtxReferenceIdeal : Cert.InprojCtxReferenceIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg)
    (m' : (ℓ : Loc Cert.InprojCtxReferenceIdeal.nD Cert.InprojCtxReferenceIdeal.τ Cert.InprojCtxReferenceIdeal.sig) → Buf (Elt Ideal) ℓ) (g' : Dev Cert.InprojCtxReferenceIdeal.nD → PrngReg), Pre_InprojCtxIdeal m →
    (∀ c : Dev Cert.InprojCtxIdeal.nD,
      m' ((c.tc : Thread Cert.InprojCtxReferenceIdeal.nD Cert.InprojCtxReferenceIdeal.τ).loc Cert.InprojCtxReferenceIdeal.main_arg0) = m ((c.tc : Thread Cert.InprojCtxIdeal.nD Cert.InprojCtxIdeal.τ).loc Cert.InprojCtxIdeal.main_arg0)
      ∧ m' ((c.tc : Thread Cert.InprojCtxReferenceIdeal.nD Cert.InprojCtxReferenceIdeal.τ).loc Cert.InprojCtxReferenceIdeal.main_arg1) = m ((c.tc : Thread Cert.InprojCtxIdeal.nD Cert.InprojCtxIdeal.τ).loc Cert.InprojCtxIdeal.main_arg1)
      ∧ m' ((c.tc : Thread Cert.InprojCtxReferenceIdeal.nD Cert.InprojCtxReferenceIdeal.τ).loc Cert.InprojCtxReferenceIdeal.main_arg2) = m ((c.tc : Thread Cert.InprojCtxIdeal.nD Cert.InprojCtxIdeal.τ).loc Cert.InprojCtxIdeal.main_arg2)
      ∧ m' ((c.tc : Thread Cert.InprojCtxReferenceIdeal.nD Cert.InprojCtxReferenceIdeal.τ).loc Cert.InprojCtxReferenceIdeal.main_arg3) = m ((c.tc : Thread Cert.InprojCtxIdeal.nD Cert.InprojCtxIdeal.τ).loc Cert.InprojCtxIdeal.main_arg3)) →
    ∃ (v0 : (c : Dev Cert.InprojCtxIdeal.nD) → Buf (Elt Ideal) ((c.tc : Thread Cert.InprojCtxIdeal.nD Cert.InprojCtxIdeal.τ).loc Cert.InprojCtxIdeal.main_v0)),
      θ_run (Cert.InprojCtxIdeal.defs (F := Ideal)) (onTc (τ := Cert.InprojCtxIdeal.τ) (Cert.InprojCtxIdeal.main (F := Ideal))) ⟨m, fun _ => 0, g⟩ (fun r => ∀ c : Dev Cert.InprojCtxIdeal.nD,
          r.2.mem ((c.tc : Thread Cert.InprojCtxIdeal.nD Cert.InprojCtxIdeal.τ).loc Cert.InprojCtxIdeal.main_v0) = v0 c
          ∧ r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
          ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
          ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
          ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3))
      ∧ θ_run (Cert.InprojCtxReferenceIdeal.defs (F := Ideal)) (onTc (τ := Cert.InprojCtxReferenceIdeal.τ) (Cert.InprojCtxReferenceIdeal.main (F := Ideal))) ⟨m', fun _ => 0, g'⟩ (fun r => ∀ c : Dev Cert.InprojCtxReferenceIdeal.nD,
          r.2.mem ((c.tc : Thread Cert.InprojCtxReferenceIdeal.nD Cert.InprojCtxReferenceIdeal.τ).loc Cert.InprojCtxReferenceIdeal.main_v32) = v0 c
          ∧ r.2.mem ((c.tc : Thread Cert.InprojCtxReferenceIdeal.nD Cert.InprojCtxReferenceIdeal.τ).loc Cert.InprojCtxReferenceIdeal.main_arg0) = m' ((c.tc : Thread Cert.InprojCtxReferenceIdeal.nD Cert.InprojCtxReferenceIdeal.τ).loc Cert.InprojCtxReferenceIdeal.main_arg0)
          ∧ r.2.mem ((c.tc : Thread Cert.InprojCtxReferenceIdeal.nD Cert.InprojCtxReferenceIdeal.τ).loc Cert.InprojCtxReferenceIdeal.main_arg1) = m' ((c.tc : Thread Cert.InprojCtxReferenceIdeal.nD Cert.InprojCtxReferenceIdeal.τ).loc Cert.InprojCtxReferenceIdeal.main_arg1)
          ∧ r.2.mem ((c.tc : Thread Cert.InprojCtxReferenceIdeal.nD Cert.InprojCtxReferenceIdeal.τ).loc Cert.InprojCtxReferenceIdeal.main_arg2) = m' ((c.tc : Thread Cert.InprojCtxReferenceIdeal.nD Cert.InprojCtxReferenceIdeal.τ).loc Cert.InprojCtxReferenceIdeal.main_arg2)
          ∧ r.2.mem ((c.tc : Thread Cert.InprojCtxReferenceIdeal.nD Cert.InprojCtxReferenceIdeal.τ).loc Cert.InprojCtxReferenceIdeal.main_arg3) = m' ((c.tc : Thread Cert.InprojCtxReferenceIdeal.nD Cert.InprojCtxReferenceIdeal.τ).loc Cert.InprojCtxReferenceIdeal.main_arg3))

def preserves_OutprojCtx_OutprojCtxIdeal : Prop :=
  True

def algebraic_OutprojCtxIdeal_OutprojCtxReferenceIdeal [hOutprojCtxIdeal : Cert.OutprojCtxIdeal.Facts] [hOutprojCtxReferenceIdeal : Cert.OutprojCtxReferenceIdeal.Facts] : Prop :=
  ∀ (m : (ℓ : Loc Cert.OutprojCtxIdeal.nD Cert.OutprojCtxIdeal.τ Cert.OutprojCtxIdeal.sig) → Buf (Elt Ideal) ℓ) (g : Dev Cert.OutprojCtxIdeal.nD → PrngReg)
    (m' : (ℓ : Loc Cert.OutprojCtxReferenceIdeal.nD Cert.OutprojCtxReferenceIdeal.τ Cert.OutprojCtxReferenceIdeal.sig) → Buf (Elt Ideal) ℓ) (g' : Dev Cert.OutprojCtxReferenceIdeal.nD → PrngReg), Pre_OutprojCtxIdeal m →
    (∀ c : Dev Cert.OutprojCtxIdeal.nD,
      m' ((c.tc : Thread Cert.OutprojCtxReferenceIdeal.nD Cert.OutprojCtxReferenceIdeal.τ).loc Cert.OutprojCtxReferenceIdeal.main_arg0) = m ((c.tc : Thread Cert.OutprojCtxIdeal.nD Cert.OutprojCtxIdeal.τ).loc Cert.OutprojCtxIdeal.main_arg0)
      ∧ m' ((c.tc : Thread Cert.OutprojCtxReferenceIdeal.nD Cert.OutprojCtxReferenceIdeal.τ).loc Cert.OutprojCtxReferenceIdeal.main_arg1) = m ((c.tc : Thread Cert.OutprojCtxIdeal.nD Cert.OutprojCtxIdeal.τ).loc Cert.OutprojCtxIdeal.main_arg1)
      ∧ m' ((c.tc : Thread Cert.OutprojCtxReferenceIdeal.nD Cert.OutprojCtxReferenceIdeal.τ).loc Cert.OutprojCtxReferenceIdeal.main_arg2) = m ((c.tc : Thread Cert.OutprojCtxIdeal.nD Cert.OutprojCtxIdeal.τ).loc Cert.OutprojCtxIdeal.main_arg2)
      ∧ m' ((c.tc : Thread Cert.OutprojCtxReferenceIdeal.nD Cert.OutprojCtxReferenceIdeal.τ).loc Cert.OutprojCtxReferenceIdeal.main_arg3) = m ((c.tc : Thread Cert.OutprojCtxIdeal.nD Cert.OutprojCtxIdeal.τ).loc Cert.OutprojCtxIdeal.main_arg3)) →
    ∃ (v0 : (c : Dev Cert.OutprojCtxIdeal.nD) → Buf (Elt Ideal) ((c.tc : Thread Cert.OutprojCtxIdeal.nD Cert.OutprojCtxIdeal.τ).loc Cert.OutprojCtxIdeal.main_v2)),
      θ_run (Cert.OutprojCtxIdeal.defs (F := Ideal)) (onTc (τ := Cert.OutprojCtxIdeal.τ) (Cert.OutprojCtxIdeal.main (F := Ideal))) ⟨m, fun _ => 0, g⟩ (fun r => ∀ c : Dev Cert.OutprojCtxIdeal.nD,
          r.2.mem ((c.tc : Thread Cert.OutprojCtxIdeal.nD Cert.OutprojCtxIdeal.τ).loc Cert.OutprojCtxIdeal.main_v2) = v0 c
          ∧ r.2.mem ((c.tc : Thread Cert.OutprojCtxIdeal.nD Cert.OutprojCtxIdeal.τ).loc Cert.OutprojCtxIdeal.main_arg0) = m ((c.tc : Thread Cert.OutprojCtxIdeal.nD Cert.OutprojCtxIdeal.τ).loc Cert.OutprojCtxIdeal.main_arg0)
          ∧ r.2.mem ((c.tc : Thread Cert.OutprojCtxIdeal.nD Cert.OutprojCtxIdeal.τ).loc Cert.OutprojCtxIdeal.main_arg1) = m ((c.tc : Thread Cert.OutprojCtxIdeal.nD Cert.OutprojCtxIdeal.τ).loc Cert.OutprojCtxIdeal.main_arg1)
          ∧ r.2.mem ((c.tc : Thread Cert.OutprojCtxIdeal.nD Cert.OutprojCtxIdeal.τ).loc Cert.OutprojCtxIdeal.main_arg2) = m ((c.tc : Thread Cert.OutprojCtxIdeal.nD Cert.OutprojCtxIdeal.τ).loc Cert.OutprojCtxIdeal.main_arg2)
          ∧ r.2.mem ((c.tc : Thread Cert.OutprojCtxIdeal.nD Cert.OutprojCtxIdeal.τ).loc Cert.OutprojCtxIdeal.main_arg3) = m ((c.tc : Thread Cert.OutprojCtxIdeal.nD Cert.OutprojCtxIdeal.τ).loc Cert.OutprojCtxIdeal.main_arg3))
      ∧ θ_run (Cert.OutprojCtxReferenceIdeal.defs (F := Ideal)) (onTc (τ := Cert.OutprojCtxReferenceIdeal.τ) (Cert.OutprojCtxReferenceIdeal.main (F := Ideal))) ⟨m', fun _ => 0, g'⟩ (fun r => ∀ c : Dev Cert.OutprojCtxReferenceIdeal.nD,
          r.2.mem ((c.tc : Thread Cert.OutprojCtxReferenceIdeal.nD Cert.OutprojCtxReferenceIdeal.τ).loc Cert.OutprojCtxReferenceIdeal.main_v9) = v0 c
          ∧ r.2.mem ((c.tc : Thread Cert.OutprojCtxReferenceIdeal.nD Cert.OutprojCtxReferenceIdeal.τ).loc Cert.OutprojCtxReferenceIdeal.main_arg0) = m' ((c.tc : Thread Cert.OutprojCtxReferenceIdeal.nD Cert.OutprojCtxReferenceIdeal.τ).loc Cert.OutprojCtxReferenceIdeal.main_arg0)
          ∧ r.2.mem ((c.tc : Thread Cert.OutprojCtxReferenceIdeal.nD Cert.OutprojCtxReferenceIdeal.τ).loc Cert.OutprojCtxReferenceIdeal.main_arg1) = m' ((c.tc : Thread Cert.OutprojCtxReferenceIdeal.nD Cert.OutprojCtxReferenceIdeal.τ).loc Cert.OutprojCtxReferenceIdeal.main_arg1)
          ∧ r.2.mem ((c.tc : Thread Cert.OutprojCtxReferenceIdeal.nD Cert.OutprojCtxReferenceIdeal.τ).loc Cert.OutprojCtxReferenceIdeal.main_arg2) = m' ((c.tc : Thread Cert.OutprojCtxReferenceIdeal.nD Cert.OutprojCtxReferenceIdeal.τ).loc Cert.OutprojCtxReferenceIdeal.main_arg2)
          ∧ r.2.mem ((c.tc : Thread Cert.OutprojCtxReferenceIdeal.nD Cert.OutprojCtxReferenceIdeal.τ).loc Cert.OutprojCtxReferenceIdeal.main_arg3) = m' ((c.tc : Thread Cert.OutprojCtxReferenceIdeal.nD Cert.OutprojCtxReferenceIdeal.τ).loc Cert.OutprojCtxReferenceIdeal.main_arg3))

def preserves_InprojLast_InprojLastIdeal : Prop :=
  True

def algebraic_InprojLastIdeal_InprojLastReferenceIdeal [hInprojLastIdeal : Cert.InprojLastIdeal.Facts] [hInprojLastReferenceIdeal : Cert.InprojLastReferenceIdeal.Facts] : Prop :=
  ∀ (m : (ℓ : Loc Cert.InprojLastIdeal.nD Cert.InprojLastIdeal.τ Cert.InprojLastIdeal.sig) → Buf (Elt Ideal) ℓ) (g : Dev Cert.InprojLastIdeal.nD → PrngReg)
    (m' : (ℓ : Loc Cert.InprojLastReferenceIdeal.nD Cert.InprojLastReferenceIdeal.τ Cert.InprojLastReferenceIdeal.sig) → Buf (Elt Ideal) ℓ) (g' : Dev Cert.InprojLastReferenceIdeal.nD → PrngReg), Pre_InprojLastIdeal m →
    (∀ c : Dev Cert.InprojLastIdeal.nD,
      m' ((c.tc : Thread Cert.InprojLastReferenceIdeal.nD Cert.InprojLastReferenceIdeal.τ).loc Cert.InprojLastReferenceIdeal.main_arg0) = m ((c.tc : Thread Cert.InprojLastIdeal.nD Cert.InprojLastIdeal.τ).loc Cert.InprojLastIdeal.main_arg0)
      ∧ m' ((c.tc : Thread Cert.InprojLastReferenceIdeal.nD Cert.InprojLastReferenceIdeal.τ).loc Cert.InprojLastReferenceIdeal.main_arg1) = m ((c.tc : Thread Cert.InprojLastIdeal.nD Cert.InprojLastIdeal.τ).loc Cert.InprojLastIdeal.main_arg1)
      ∧ m' ((c.tc : Thread Cert.InprojLastReferenceIdeal.nD Cert.InprojLastReferenceIdeal.τ).loc Cert.InprojLastReferenceIdeal.main_arg2) = m ((c.tc : Thread Cert.InprojLastIdeal.nD Cert.InprojLastIdeal.τ).loc Cert.InprojLastIdeal.main_arg2)
      ∧ m' ((c.tc : Thread Cert.InprojLastReferenceIdeal.nD Cert.InprojLastReferenceIdeal.τ).loc Cert.InprojLastReferenceIdeal.main_arg3) = m ((c.tc : Thread Cert.InprojLastIdeal.nD Cert.InprojLastIdeal.τ).loc Cert.InprojLastIdeal.main_arg3)) →
    ∃ (v0 : (c : Dev Cert.InprojLastIdeal.nD) → Buf (Elt Ideal) ((c.tc : Thread Cert.InprojLastIdeal.nD Cert.InprojLastIdeal.τ).loc Cert.InprojLastIdeal.main_v0)),
      θ_run (Cert.InprojLastIdeal.defs (F := Ideal)) (onTc (τ := Cert.InprojLastIdeal.τ) (Cert.InprojLastIdeal.main (F := Ideal))) ⟨m, fun _ => 0, g⟩ (fun r => ∀ c : Dev Cert.InprojLastIdeal.nD,
          r.2.mem ((c.tc : Thread Cert.InprojLastIdeal.nD Cert.InprojLastIdeal.τ).loc Cert.InprojLastIdeal.main_v0) = v0 c
          ∧ r.2.mem ((c.tc : Thread Cert.InprojLastIdeal.nD Cert.InprojLastIdeal.τ).loc Cert.InprojLastIdeal.main_arg0) = m ((c.tc : Thread Cert.InprojLastIdeal.nD Cert.InprojLastIdeal.τ).loc Cert.InprojLastIdeal.main_arg0)
          ∧ r.2.mem ((c.tc : Thread Cert.InprojLastIdeal.nD Cert.InprojLastIdeal.τ).loc Cert.InprojLastIdeal.main_arg1) = m ((c.tc : Thread Cert.InprojLastIdeal.nD Cert.InprojLastIdeal.τ).loc Cert.InprojLastIdeal.main_arg1)
          ∧ r.2.mem ((c.tc : Thread Cert.InprojLastIdeal.nD Cert.InprojLastIdeal.τ).loc Cert.InprojLastIdeal.main_arg2) = m ((c.tc : Thread Cert.InprojLastIdeal.nD Cert.InprojLastIdeal.τ).loc Cert.InprojLastIdeal.main_arg2)
          ∧ r.2.mem ((c.tc : Thread Cert.InprojLastIdeal.nD Cert.InprojLastIdeal.τ).loc Cert.InprojLastIdeal.main_arg3) = m ((c.tc : Thread Cert.InprojLastIdeal.nD Cert.InprojLastIdeal.τ).loc Cert.InprojLastIdeal.main_arg3))
      ∧ θ_run (Cert.InprojLastReferenceIdeal.defs (F := Ideal)) (onTc (τ := Cert.InprojLastReferenceIdeal.τ) (Cert.InprojLastReferenceIdeal.main (F := Ideal))) ⟨m', fun _ => 0, g'⟩ (fun r => ∀ c : Dev Cert.InprojLastReferenceIdeal.nD,
          r.2.mem ((c.tc : Thread Cert.InprojLastReferenceIdeal.nD Cert.InprojLastReferenceIdeal.τ).loc Cert.InprojLastReferenceIdeal.main_v37) = v0 c
          ∧ r.2.mem ((c.tc : Thread Cert.InprojLastReferenceIdeal.nD Cert.InprojLastReferenceIdeal.τ).loc Cert.InprojLastReferenceIdeal.main_arg0) = m' ((c.tc : Thread Cert.InprojLastReferenceIdeal.nD Cert.InprojLastReferenceIdeal.τ).loc Cert.InprojLastReferenceIdeal.main_arg0)
          ∧ r.2.mem ((c.tc : Thread Cert.InprojLastReferenceIdeal.nD Cert.InprojLastReferenceIdeal.τ).loc Cert.InprojLastReferenceIdeal.main_arg1) = m' ((c.tc : Thread Cert.InprojLastReferenceIdeal.nD Cert.InprojLastReferenceIdeal.τ).loc Cert.InprojLastReferenceIdeal.main_arg1)
          ∧ r.2.mem ((c.tc : Thread Cert.InprojLastReferenceIdeal.nD Cert.InprojLastReferenceIdeal.τ).loc Cert.InprojLastReferenceIdeal.main_arg2) = m' ((c.tc : Thread Cert.InprojLastReferenceIdeal.nD Cert.InprojLastReferenceIdeal.τ).loc Cert.InprojLastReferenceIdeal.main_arg2)
          ∧ r.2.mem ((c.tc : Thread Cert.InprojLastReferenceIdeal.nD Cert.InprojLastReferenceIdeal.τ).loc Cert.InprojLastReferenceIdeal.main_arg3) = m' ((c.tc : Thread Cert.InprojLastReferenceIdeal.nD Cert.InprojLastReferenceIdeal.τ).loc Cert.InprojLastReferenceIdeal.main_arg3))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hInprojCtx : Cert.InprojCtx.Facts) (hInprojCtxIdeal : Cert.InprojCtxIdeal.Facts) (hInprojCtxReferenceIdeal : Cert.InprojCtxReferenceIdeal.Facts) (hOutprojCtx : Cert.OutprojCtx.Facts) (hOutprojCtxIdeal : Cert.OutprojCtxIdeal.Facts) (hOutprojCtxReferenceIdeal : Cert.OutprojCtxReferenceIdeal.Facts) (hInprojLast : Cert.InprojLast.Facts) (hInprojLastIdeal : Cert.InprojLastIdeal.Facts) (hInprojLastReferenceIdeal : Cert.InprojLastReferenceIdeal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_InprojCtx (hInprojCtx := hInprojCtx)
    ∧ quiescent_InprojCtxIdeal (hInprojCtxIdeal := hInprojCtxIdeal)
    ∧ quiescent_InprojCtxReferenceIdeal (hInprojCtxReferenceIdeal := hInprojCtxReferenceIdeal)
    ∧ quiescent_OutprojCtx (hOutprojCtx := hOutprojCtx)
    ∧ quiescent_OutprojCtxIdeal (hOutprojCtxIdeal := hOutprojCtxIdeal)
    ∧ quiescent_OutprojCtxReferenceIdeal (hOutprojCtxReferenceIdeal := hOutprojCtxReferenceIdeal)
    ∧ quiescent_InprojLast (hInprojLast := hInprojLast)
    ∧ quiescent_InprojLastIdeal (hInprojLastIdeal := hInprojLastIdeal)
    ∧ quiescent_InprojLastReferenceIdeal (hInprojLastReferenceIdeal := hInprojLastReferenceIdeal)
    ∧ preserves_Kernel_KernelIdeal
    ∧ algebraic_KernelIdeal_ReferenceIdeal_pre_finite_tables (hKernelIdeal := hKernelIdeal) (hReferenceIdeal := hReferenceIdeal) (hPre_finite_tables := hPre_finite_tables)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal (hOutprojIdeal := hOutprojIdeal) (hOutprojReferenceIdeal := hOutprojReferenceIdeal)
    ∧ preserves_InprojCtx_InprojCtxIdeal
    ∧ algebraic_InprojCtxIdeal_InprojCtxReferenceIdeal (hInprojCtxIdeal := hInprojCtxIdeal) (hInprojCtxReferenceIdeal := hInprojCtxReferenceIdeal)
    ∧ preserves_OutprojCtx_OutprojCtxIdeal
    ∧ algebraic_OutprojCtxIdeal_OutprojCtxReferenceIdeal (hOutprojCtxIdeal := hOutprojCtxIdeal) (hOutprojCtxReferenceIdeal := hOutprojCtxReferenceIdeal)
    ∧ preserves_InprojLast_InprojLastIdeal
    ∧ algebraic_InprojLastIdeal_InprojLastReferenceIdeal (hInprojLastIdeal := hInprojLastIdeal) (hInprojLastReferenceIdeal := hInprojLastReferenceIdeal)
-- ==== Pre_finite_tables.lean ====
abbrev S8x56x2048x128 : Shape := ⟨4, ![8, 56, 2048, 128]⟩
abbrev S8x56x256x128 : Shape := ⟨4, ![8, 56, 256, 128]⟩
abbrev S2048x64 : Shape := ⟨2, ![2048, 64]⟩
abbrev S128 : Shape := ⟨1, ![128]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x56x2048x128 .bf16) (main_arg1 : FVec F S8x56x256x128 .bf16) (main_arg2 : FVec F S2048x64 .f32) (main_arg3 : FVec F S2048x64 .f32) (main_arg4 : FVec F S128 .f32) (main_arg5 : FVec F S128 .f32) : IVec S_ 1 :=
  let main_v0 : FVec F S2048x64 .f32 := Host.absf main_arg2
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg3
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x56x2048x128 : Shape := ⟨4, ![8, 56, 2048, 128]⟩
abbrev S8x56x256x128 : Shape := ⟨4, ![8, 56, 256, 128]⟩
abbrev S2048x64 : Shape := ⟨2, ![2048, 64]⟩
abbrev S128 : Shape := ⟨1, ![128]⟩
abbrev S2048x128 : Shape := ⟨2, ![2048, 128]⟩
abbrev S1x128 : Shape := ⟨2, ![1, 128]⟩
abbrev S8x2048x512 : Shape := ⟨3, ![8, 2048, 512]⟩
abbrev S1x4x512x128 : Shape := ⟨4, ![1, 4, 512, 128]⟩
abbrev S1x2x2048x128 : Shape := ⟨4, ![1, 2, 2048, 128]⟩
abbrev S1x2x256x128 : Shape := ⟨4, ![1, 2, 256, 128]⟩
abbrev S1x512x512 : Shape := ⟨3, ![1, 512, 512]⟩
abbrev S2x2304x128 : Shape := ⟨3, ![2, 2304, 128]⟩
abbrev S2x2304x256 : Shape := ⟨3, ![2, 2304, 256]⟩
abbrev S2x4x512x128 : Shape := ⟨4, ![2, 4, 512, 128]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1x2048x128 : Shape := ⟨4, ![1, 1, 2048, 128]⟩
abbrev S128x128 : Shape := ⟨2, ![128, 128]⟩
abbrev S1x2048x128 : Shape := ⟨3, ![1, 2048, 128]⟩
abbrev S256x256 : Shape := ⟨2, ![256, 256]⟩
abbrev S1x256x256 : Shape := ⟨3, ![1, 256, 256]⟩
abbrev S2048x256 : Shape := ⟨2, ![2048, 256]⟩
abbrev S1x2048x256 : Shape := ⟨3, ![1, 2048, 256]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S1024x128 : Shape := ⟨2, ![1024, 128]⟩
abbrev S1x1280x128 : Shape := ⟨3, ![1, 1280, 128]⟩
abbrev S1280x128 : Shape := ⟨2, ![1280, 128]⟩
abbrev S1x1280x256 : Shape := ⟨3, ![1, 1280, 256]⟩
abbrev S1280x256 : Shape := ⟨2, ![1280, 256]⟩
abbrev S1x1024x128 : Shape := ⟨3, ![1, 1024, 128]⟩
abbrev S1x1024x256 : Shape := ⟨3, ![1, 1024, 256]⟩
abbrev S1024x256 : Shape := ⟨2, ![1024, 256]⟩
abbrev S1024x1280 : Shape := ⟨2, ![1024, 1280]⟩
abbrev S1024x1024 : Shape := ⟨2, ![1024, 1024]⟩
abbrev S1024 : Shape := ⟨1, ![1024]⟩
abbrev S1024x1 : Shape := ⟨2, ![1024, 1]⟩
abbrev S1x512x128 : Shape := ⟨3, ![1, 512, 128]⟩

abbrev nBuf : Space → Nat
  | .hbm => 12
  | .vmem => 23
  | .smem => 0
  | _ => 0

abbrev bufTy : (tb : Table) → Fin (tcTables nBuf tb) → BufTy
  | .hbm, ⟨0, _⟩ => ⟨S8x56x2048x128, .bf16⟩
  | .hbm, ⟨1, _⟩ => ⟨S8x56x256x128, .bf16⟩
  | .hbm, ⟨2, _⟩ => ⟨S2048x64, .f32⟩
  | .hbm, ⟨3, _⟩ => ⟨S2048x64, .f32⟩
  | .hbm, ⟨4, _⟩ => ⟨S128, .f32⟩
  | .hbm, ⟨5, _⟩ => ⟨S128, .f32⟩
  | .hbm, ⟨6, _⟩ => ⟨S2048x128, .f32⟩
  | .hbm, ⟨7, _⟩ => ⟨S2048x64, .f32⟩
  | .hbm, ⟨8, _⟩ => ⟨S2048x128, .f32⟩
  | .hbm, ⟨9, _⟩ => ⟨S1x128, .f32⟩
  | .hbm, ⟨10, _⟩ => ⟨S1x128, .f32⟩
  | .hbm, ⟨11, _⟩ => ⟨S8x2048x512, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x512x128, .bf16⟩
  | .local _ .vmem, ⟨3, _⟩ => ⟨S1x4x512x128, .bf16⟩
  | .local _ .vmem, ⟨4, _⟩ => ⟨S1x2x2048x128, .bf16⟩
  | .local _ .vmem, ⟨5, _⟩ => ⟨S1x2x2048x128, .bf16⟩
  | .local _ .vmem, ⟨6, _⟩ => ⟨S1x2x256x128, .bf16⟩
  | .local _ .vmem, ⟨7, _⟩ => ⟨S1x2x256x128, .bf16⟩
  | .local _ .vmem, ⟨8, _⟩ => ⟨S1x2x2048x128, .bf16⟩
  | .local _ .vmem, ⟨9, _⟩ => ⟨S1x2x2048x128, .bf16⟩
  | .local _ .vmem, ⟨10, _⟩ => ⟨S1x2x256x128, .bf16⟩
  | .local _ .vmem, ⟨11, _⟩ => ⟨S1x2x256x128, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S2048x128, .f32⟩
  | .local _ .vmem, ⟨15, _⟩ => ⟨S2048x128, .f32⟩
  | .local _ .vmem, ⟨16, _⟩ => ⟨S1x128, .f32⟩
  | .local _ .vmem, ⟨17, _⟩ => ⟨S1x128, .f32⟩
  | .local _ .vmem, ⟨18, _⟩ => ⟨S1x512x512, .bf16⟩
  | .local _ .vmem, ⟨19, _⟩ => ⟨S1x512x512, .bf16⟩
  | .local _ .vmem, ⟨20, _⟩ => ⟨S2x2304x128, .bf16⟩
  | .local _ .vmem, ⟨21, _⟩ => ⟨S2x2304x256, .bf16⟩
  | .local _ .vmem, ⟨22, _⟩ => ⟨S2x4x512x128, .bf16⟩
  | _, _ => ⟨S8x56x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_237 : BitVec 32 := 0#32
  c0_i32_237
def k0_off1 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : Index := Scalar.indexCast v12
  let c0 : Index := 0#32
  let c0_5 : Index := 0#32
  let c0_6 : Index := 0#32
  ![v13.toNat, 0, 0, 0]
def k0_off2 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16 : Index := Scalar.indexCast v12
  let c1 : Index := 1#32
  let c0_7 : Index := 0#32
  let c0_8 : Index := 0#32
  ![v16.toNat, 1, 0, 0]
def k0_off3 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v20 : Index := Scalar.indexCast v12
  let c2 : Index := 2#32
  let c0_9 : Index := 0#32
  let c0_10 : Index := 0#32
  ![v20.toNat, 2, 0, 0]
def k0_off4 (i : grid0.Coords) : Fin 4 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v23 : Index := Scalar.indexCast v12
  let c3 : Index := 3#32
  let c0_11 : Index := 0#32
  let c0_12 : Index := 0#32
  ![v23.toNat, 3, 0, 0]
def k0_mult2 (i : grid0.Coords) : BitVec 32 :=
  let arg1 : BitVec 32 := BitVec.ofNat 32 (i 1).val
  let c1_i32_20 : BitVec 32 := 1#32
  let v38 : BitVec 32 := Scalar.addi arg1 c1_i32_20
  let c3_i32 : BitVec 32 := 3#32
  let v39 : BitVec 32 := Scalar.minsi v38 c3_i32
  let c512_i32 : BitVec 32 := 512#32
  let v40 : BitVec 32 := Scalar.muli v39 c512_i32
  v40
def k0_off5 (i : grid0.Coords) : Fin 2 → Nat :=
  let arg1 : BitVec 32 := BitVec.ofNat 32 (i 1).val
  let c1_i32_20 : BitVec 32 := 1#32
  let v38 : BitVec 32 := Scalar.addi arg1 c1_i32_20
  let c3_i32 : BitVec 32 := 3#32
  let v39 : BitVec 32 := Scalar.minsi v38 c3_i32
  let c512_i32 : BitVec 32 := 512#32
  let v40 : BitVec 32 := Scalar.muli v39 c512_i32
  let v41 : BitVec 32 := v40
  let v42 : Index := Scalar.indexCast v41
  let c0_21 : Index := 0#32
  ![v42.toNat, 0]
def k0_off6 (i : grid0.Coords) : Fin 4 → Nat :=
  let c1_i32_19 : BitVec 32 := 1#32
  let arg1 : BitVec 32 := BitVec.ofNat 32 (i 1).val
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi arg1 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.subi c1_i32_19 v36
  let v72 : Index := Scalar.indexCast v37
  let c0_32 : Index := 0#32
  let c0_33 : Index := 0#32
  let c0_34 : Index := 0#32
  ![v72.toNat, 0, 0, 0]
def k0_off7 (i : grid0.Coords) : Fin 4 → Nat :=
  let c1_i32_19 : BitVec 32 := 1#32
  let arg1 : BitVec 32 := BitVec.ofNat 32 (i 1).val
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi arg1 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.subi c1_i32_19 v36
  let v100 : Index := Scalar.indexCast v37
  let c1_46 : Index := 1#32
  let c0_47 : Index := 0#32
  let c0_48 : Index := 0#32
  ![v100.toNat, 1, 0, 0]
def k0_off8 (i : grid0.Coords) : Fin 4 → Nat :=
  let c1_i32_19 : BitVec 32 := 1#32
  let arg1 : BitVec 32 := BitVec.ofNat 32 (i 1).val
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi arg1 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.subi c1_i32_19 v36
  let v128 : Index := Scalar.indexCast v37
  let c2_60 : Index := 2#32
  let c0_61 : Index := 0#32
  let c0_62 : Index := 0#32
  ![v128.toNat, 2, 0, 0]
def k0_off9 (i : grid0.Coords) : Fin 4 → Nat :=
  let c1_i32_19 : BitVec 32 := 1#32
  let arg1 : BitVec 32 := BitVec.ofNat 32 (i 1).val
  let c2_i32_13 : BitVec 32 := 2#32
  let c0_i32_14 : BitVec 32 := 0#32
  let v27 : BitVec 1 := Scalar.cmpi .eq c2_i32_13 c0_i32_14
  let c1_i32_15 : BitVec 32 := 1#32
  let v28 : BitVec 32 := Scalar.select v27 c1_i32_15 c2_i32_13
  let v29 : BitVec 32 := Scalar.remsi arg1 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let v37 : BitVec 32 := Scalar.subi c1_i32_19 v36
  let v156 : Index := Scalar.indexCast v37
  let c3_74 : Index := 3#32
  let c0_75 : Index := 0#32
  let c0_76 : Index := 0#32
  ![v156.toNat, 3, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c3_i32 : BitVec 32 := 3#32
  let v1 : BitVec 32 := Scalar.minsi v0 c3_i32
  let c0_i32 : BitVec 32 := 0#32
  let c0_i32_0 : BitVec 32 := 0#32
  let c0_i32_1 : BitVec 32 := 0#32
  ![arg0.toNat, c0_i32.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "qscale" => some (((Real.sqrt 128)⁻¹ * (Real.log 2)⁻¹ : ℝ) : EReal)
  | _ => none
-- ==== ReferenceIdeal.lean ====
abbrev S8x56x2048x128 : Shape := ⟨4, ![8, 56, 2048, 128]⟩
abbrev S8x56x256x128 : Shape := ⟨4, ![8, 56, 256, 128]⟩
abbrev S2048x64 : Shape := ⟨2, ![2048, 64]⟩
abbrev S128 : Shape := ⟨1, ![128]⟩
abbrev S8x4x2048x128 : Shape := ⟨4, ![8, 4, 2048, 128]⟩
abbrev S8x2048x4x128 : Shape := ⟨4, ![8, 2048, 4, 128]⟩
abbrev S8x2x2048x128 : Shape := ⟨4, ![8, 2, 2048, 128]⟩
abbrev S8x2048x2x128 : Shape := ⟨4, ![8, 2048, 2, 128]⟩
abbrev S8x2x256x128 : Shape := ⟨4, ![8, 2, 256, 128]⟩
abbrev S8x256x2x128 : Shape := ⟨4, ![8, 256, 2, 128]⟩
abbrev S_ : Shape := ⟨0, ![]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x4x64 : Shape := ⟨4, ![8, 2048, 4, 64]⟩
abbrev S1x2048x1x64 : Shape := ⟨4, ![1, 2048, 1, 64]⟩
abbrev S8x2048x2 : Shape := ⟨3, ![8, 2048, 2]⟩
abbrev S8x2048x2x1 : Shape := ⟨4, ![8, 2048, 2, 1]⟩
abbrev S8x2048x2x64 : Shape := ⟨4, ![8, 2048, 2, 64]⟩
abbrev S8x256x2 : Shape := ⟨3, ![8, 256, 2]⟩
abbrev S8x256x2x1 : Shape := ⟨4, ![8, 256, 2, 1]⟩
abbrev S8x2304x2x128 : Shape := ⟨4, ![8, 2304, 2, 128]⟩
abbrev S8x2048x2x2x128 : Shape := ⟨5, ![8, 2048, 2, 2, 128]⟩
abbrev S8x2x2304x2048x2 : Shape := ⟨5, ![8, 2, 2304, 2048, 2]⟩
abbrev S8x2x2x2048x2304 : Shape := ⟨5, ![8, 2, 2, 2048, 2304]⟩
abbrev S8x2x2x2048 : Shape := ⟨4, ![8, 2, 2, 2048]⟩
abbrev S8x2x2x2048x1 : Shape := ⟨5, ![8, 2, 2, 2048, 1]⟩
abbrev S8x2x128x2x2048 : Shape := ⟨5, ![8, 2, 128, 2, 2048]⟩
abbrev S8x2048x512 : Shape := ⟨3, ![8, 2048, 512]⟩

abbrev nBuf : Space → Nat
  | .hbm => 140
  | .vmem => 0
  | .smem => 0
  | _ => 0

abbrev hbmTy0_0 (i : Nat) : BufTy := match i % 128 with
  | 0 => ⟨S8x56x2048x128, .bf16⟩
  | 1 => ⟨S8x56x256x128, .bf16⟩
  | 2 => ⟨S2048x64, .f32⟩
  | 3 => ⟨S2048x64, .f32⟩
  | 4 => ⟨S128, .f32⟩
  | 5 => ⟨S128, .f32⟩
  | 6 => ⟨S8x4x2048x128, .bf16⟩
  | 7 => ⟨S8x2048x4x128, .bf16⟩
  | 8 => ⟨S8x2048x4x128, .f32⟩
  | 9 => ⟨S8x2x2048x128, .bf16⟩
  | 10 => ⟨S8x2048x2x128, .bf16⟩
  | 11 => ⟨S8x2048x2x128, .f32⟩
  | 12 => ⟨S8x2x2048x128, .bf16⟩
  | 13 => ⟨S8x2048x2x128, .bf16⟩
  | 14 => ⟨S8x2048x2x128, .f32⟩
  | 15 => ⟨S8x4x2048x128, .bf16⟩
  | 16 => ⟨S8x2048x4x128, .bf16⟩
  | 17 => ⟨S8x2048x4x128, .f32⟩
  | 18 => ⟨S8x2x256x128, .bf16⟩
  | 19 => ⟨S8x256x2x128, .bf16⟩
  | 20 => ⟨S8x256x2x128, .f32⟩
  | 21 => ⟨S8x2x256x128, .bf16⟩
  | 22 => ⟨S8x256x2x128, .bf16⟩
  | 23 => ⟨S8x256x2x128, .f32⟩
  | 24 => ⟨S8x2048x4x128, .f32⟩
  | 25 => ⟨S_, .f32⟩
  | 26 => ⟨S8x2048x4, .f32⟩
  | 27 => ⟨S8x2048x4x1, .f32⟩
  | 28 => ⟨S_, .f32⟩
  | 29 => ⟨S8x2048x4x1, .f32⟩
  | 30 => ⟨S8x2048x4x1, .f32⟩
  | 31 => ⟨S_, .f32⟩
  | 32 => ⟨S8x2048x4x1, .f32⟩
  | 33 => ⟨S8x2048x4x1, .f32⟩
  | 34 => ⟨S8x2048x4x1, .f32⟩
  | 35 => ⟨S8x2048x4x128, .f32⟩
  | 36 => ⟨S8x2048x4x128, .f32⟩
  | 37 => ⟨S1x1x1x128, .f32⟩
  | 38 => ⟨S8x2048x4x128, .f32⟩
  | 39 => ⟨S8x2048x4x128, .f32⟩
  | 40 => ⟨S8x2048x4x64, .f32⟩
  | 41 => ⟨S8x2048x4x64, .f32⟩
  | 42 => ⟨S1x2048x1x64, .f32⟩
  | 43 => ⟨S1x2048x1x64, .f32⟩
  | 44 => ⟨S8x2048x4x64, .f32⟩
  | 45 => ⟨S8x2048x4x64, .f32⟩
  | 46 => ⟨S8x2048x4x64, .f32⟩
  | 47 => ⟨S8x2048x4x64, .f32⟩
  | 48 => ⟨S8x2048x4x64, .f32⟩
  | 49 => ⟨S8x2048x4x64, .f32⟩
  | 50 => ⟨S8x2048x4x64, .f32⟩
  | 51 => ⟨S8x2048x4x64, .f32⟩
  | 52 => ⟨S8x2048x4x64, .f32⟩
  | 53 => ⟨S8x2048x4x64, .f32⟩
  | 54 => ⟨S8x2048x4x128, .f32⟩
  | 55 => ⟨S8x2048x2x128, .f32⟩
  | 56 => ⟨S_, .f32⟩
  | 57 => ⟨S8x2048x2, .f32⟩
  | 58 => ⟨S8x2048x2x1, .f32⟩
  | 59 => ⟨S_, .f32⟩
  | 60 => ⟨S8x2048x2x1, .f32⟩
  | 61 => ⟨S8x2048x2x1, .f32⟩
  | 62 => ⟨S_, .f32⟩
  | 63 => ⟨S8x2048x2x1, .f32⟩
  | 64 => ⟨S8x2048x2x1, .f32⟩
  | 65 => ⟨S8x2048x2x1, .f32⟩
  | 66 => ⟨S8x2048x2x128, .f32⟩
  | 67 => ⟨S8x2048x2x128, .f32⟩
  | 68 => ⟨S1x1x1x128, .f32⟩
  | 69 => ⟨S8x2048x2x128, .f32⟩
  | 70 => ⟨S8x2048x2x128, .f32⟩
  | 71 => ⟨S8x2048x2x64, .f32⟩
  | 72 => ⟨S8x2048x2x64, .f32⟩
  | 73 => ⟨S1x2048x1x64, .f32⟩
  | 74 => ⟨S1x2048x1x64, .f32⟩
  | 75 => ⟨S8x2048x2x64, .f32⟩
  | 76 => ⟨S8x2048x2x64, .f32⟩
  | 77 => ⟨S8x2048x2x64, .f32⟩
  | 78 => ⟨S8x2048x2x64, .f32⟩
  | 79 => ⟨S8x2048x2x64, .f32⟩
  | 80 => ⟨S8x2048x2x64, .f32⟩
  | 81 => ⟨S8x2048x2x64, .f32⟩
  | 82 => ⟨S8x2048x2x64, .f32⟩
  | 83 => ⟨S8x2048x2x64, .f32⟩
  | 84 => ⟨S8x2048x2x64, .f32⟩
  | 85 => ⟨S8x2048x2x128, .f32⟩
  | 86 => ⟨S8x256x2x128, .f32⟩
  | 87 => ⟨S_, .f32⟩
  | 88 => ⟨S8x256x2, .f32⟩
  | 89 => ⟨S8x256x2x1, .f32⟩
  | 90 => ⟨S_, .f32⟩
  | 91 => ⟨S8x256x2x1, .f32⟩
  | 92 => ⟨S8x256x2x1, .f32⟩
  | 93 => ⟨S_, .f32⟩
  | 94 => ⟨S8x256x2x1, .f32⟩
  | 95 => ⟨S8x256x2x1, .f32⟩
  | 96 => ⟨S8x256x2x1, .f32⟩
  | 97 => ⟨S8x256x2x128, .f32⟩
  | 98 => ⟨S8x256x2x128, .f32⟩
  | 99 => ⟨S1x1x1x128, .f32⟩
  | 100 => ⟨S8x256x2x128, .f32⟩
  | 101 => ⟨S8x256x2x128, .f32⟩
  | 102 => ⟨S8x2304x2x128, .f32⟩
  | 103 => ⟨S8x2304x2x128, .f32⟩
  | 104 => ⟨S8x2048x2x2x128, .f32⟩
  | 105 => ⟨S8x2x2304x2048x2, .f32⟩
  | 106 => ⟨S8x2x2x2048x2304, .f32⟩
  | 107 => ⟨S_, .f32⟩
  | 108 => ⟨S_, .f32⟩
  | 109 => ⟨S8x2x2x2048x2304, .f32⟩
  | 110 => ⟨S8x2x2x2048x2304, .f32⟩
  | 111 => ⟨S_, .f32⟩
  | 112 => ⟨S8x2x2x2048, .f32⟩
  | 113 => ⟨S_, .f32⟩
  | 114 => ⟨S8x2x2x2048, .f32⟩
  | 115 => ⟨S8x2x2x2048, .f32⟩
  | 116 => ⟨S8x2x2x2048x1, .f32⟩
  | 117 => ⟨S8x2x2x2048x2304, .f32⟩
  | 118 => ⟨S8x2x2x2048x2304, .f32⟩
  | 119 => ⟨S8x2x2x2048x2304, .f32⟩
  | 120 => ⟨S_, .f32⟩
  | 121 => ⟨S8x2x2x2048, .f32⟩
  | 122 => ⟨S8x2x2x2048x1, .f32⟩
  | 123 => ⟨S8x2x2x2048x2304, .f32⟩
  | 124 => ⟨S8x2x2x2048x2304, .f32⟩
  | 125 => ⟨S8x2x128x2x2048, .f32⟩
  | 126 => ⟨S8x2048x2x2x128, .f32⟩
  | 127 => ⟨S8x2048x512, .f32⟩
  | _ => ⟨S8x56x2048x128, .bf16⟩

abbrev hbmTy0_1 (i : Nat) : BufTy := match i % 128 with
  | 0 => ⟨S8x2048x512, .f32⟩
  | 1 => ⟨S8x2048x512, .f32⟩
  | 2 => ⟨S8x2048x512, .f32⟩
  | 3 => ⟨S_, .f32⟩
  | 4 => ⟨S8x2048x512, .f32⟩
  | 5 => ⟨S8x2048x512, .f32⟩
  | 6 => ⟨S_, .f32⟩
  | 7 => ⟨S8x2048x512, .f32⟩
  | 8 => ⟨S8x2048x512, .f32⟩
  | 9 => ⟨S8x2048x512, .f32⟩
  | 10 => ⟨S8x2048x512, .f32⟩
  | 11 => ⟨S8x2048x512, .bf16⟩
  | _ => ⟨S8x56x2048x128, .bf16⟩

abbrev hbmTy (i : Nat) : BufTy := match i / 128 with
  | 0 => hbmTy0_0 i
  | 1 => hbmTy0_1 i
  | _ => ⟨S8x56x2048x128, .bf16⟩

abbrev bufTy : (tb : Table) → Fin (tcTables nBuf tb) → BufTy
  | .hbm, ⟨i, _⟩ => hbmTy i
  | _, _ => ⟨S8x56x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_cst_6 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_8 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_cst_10 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_11 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_call0_v5 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩

abbrev nD : Nat := 1
abbrev τ : Topo := Topo.v7x

variable {F : FTy → Type} [FloatOps F]
-- ==== Inproj.lean ====
abbrev S8x2048x2048 : Shape := ⟨3, ![8, 2048, 2048]⟩
abbrev S16x6144 : Shape := ⟨2, ![16, 6144]⟩
abbrev S1x2048 : Shape := ⟨2, ![1, 2048]⟩
abbrev S2x7168x2048 : Shape := ⟨3, ![2, 7168, 2048]⟩
abbrev S8x56x2048x128 : Shape := ⟨4, ![8, 56, 2048, 128]⟩
abbrev S1x1024x2048 : Shape := ⟨3, ![1, 1024, 2048]⟩
abbrev S1x1792x2048 : Shape := ⟨3, ![1, 1792, 2048]⟩
abbrev S1x14x1024x128 : Shape := ⟨4, ![1, 14, 1024, 128]⟩
abbrev S1024x2048 : Shape := ⟨2, ![1024, 2048]⟩
abbrev S1024 : Shape := ⟨1, ![1024]⟩
abbrev S1024x1 : Shape := ⟨2, ![1024, 1]⟩
abbrev S1792x2048 : Shape := ⟨2, ![1792, 2048]⟩
abbrev S1024x1792 : Shape := ⟨2, ![1024, 1792]⟩
abbrev S1024x128 : Shape := ⟨2, ![1024, 128]⟩
abbrev S1x1x1024x128 : Shape := ⟨4, ![1, 1, 1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S16x6144, .f32⟩
  | .hbm, ⟨2, _⟩ => ⟨S1x2048, .f32⟩
  | .hbm, ⟨3, _⟩ => ⟨S2x7168x2048, .bf16⟩
  | .hbm, ⟨4, _⟩ => ⟨S8x56x2048x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S16x6144, .f32⟩
  | .local _ .vmem, ⟨3, _⟩ => ⟨S1x2048, .f32⟩
  | .local _ .vmem, ⟨4, _⟩ => ⟨S1x1792x2048, .bf16⟩
  | .local _ .vmem, ⟨5, _⟩ => ⟨S1x1792x2048, .bf16⟩
  | .local _ .vmem, ⟨6, _⟩ => ⟨S1x14x1024x128, .bf16⟩
  | .local _ .vmem, ⟨7, _⟩ => ⟨S1x14x1024x128, .bf16⟩
  | .local _ .vmem, ⟨8, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v77 : Index := Scalar.indexCast arg0
  let c0_48 : Index := 0#32
  ![v77.toNat, 0]
def k0_off2 (i : grid0.Coords) : Fin 2 → Nat :=
  let arg0 : BitVec 32 := BitVec.ofNat 32 (i 0).val
  let v80 : Index := Scalar.indexCast arg0
  let c2048 : Index := 2048#32
  ![v80.toNat, 2048]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1792x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x14x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InprojReferenceIdeal.lean ====
abbrev S8x2048x2048 : Shape := ⟨3, ![8, 2048, 2048]⟩
abbrev S16x6144 : Shape := ⟨2, ![16, 6144]⟩
abbrev S1x2048 : Shape := ⟨2, ![1, 2048]⟩
abbrev S2x7168x2048 : Shape := ⟨3, ![2, 7168, 2048]⟩
abbrev S8x2048 : Shape := ⟨2, ![8, 2048]⟩
abbrev S8x1x2048 : Shape := ⟨3, ![8, 1, 2048]⟩
abbrev S2048 : Shape := ⟨1, ![2048]⟩
abbrev S_ : Shape := ⟨0, ![]⟩
abbrev S8x2048x1 : Shape := ⟨3, ![8, 2048, 1]⟩
abbrev S1x1x2048 : Shape := ⟨3, ![1, 1, 2048]⟩
abbrev S1x7168x2048 : Shape := ⟨3, ![1, 7168, 2048]⟩
abbrev S7168x2048 : Shape := ⟨2, ![7168, 2048]⟩
abbrev S8x2048x7168 : Shape := ⟨3, ![8, 2048, 7168]⟩
abbrev S8x2048x56x128 : Shape := ⟨4, ![8, 2048, 56, 128]⟩
abbrev S8x56x2048x128 : Shape := ⟨4, ![8, 56, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x6144, .f32⟩
  | .hbm, ⟨2, _⟩ => ⟨S1x2048, .f32⟩
  | .hbm, ⟨3, _⟩ => ⟨S2x7168x2048, .bf16⟩
  | .hbm, ⟨4, _⟩ => ⟨S8x2048, .f32⟩
  | .hbm, ⟨5, _⟩ => ⟨S8x1x2048, .f32⟩
  | .hbm, ⟨6, _⟩ => ⟨S8x2048, .f32⟩
  | .hbm, ⟨7, _⟩ => ⟨S8x1x2048, .f32⟩
  | .hbm, ⟨8, _⟩ => ⟨S2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x1x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S1x7168x2048, .bf16⟩
  | .hbm, ⟨33, _⟩ => ⟨S7168x2048, .bf16⟩
  | .hbm, ⟨34, _⟩ => ⟨S7168x2048, .f32⟩
  | .hbm, ⟨35, _⟩ => ⟨S8x2048x7168, .f32⟩
  | .hbm, ⟨36, _⟩ => ⟨S8x2048x56x128, .f32⟩
  | .hbm, ⟨37, _⟩ => ⟨S8x56x2048x128, .f32⟩
  | .hbm, ⟨38, _⟩ => ⟨S8x56x2048x128, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Outproj.lean ====
abbrev S8x2048x2048 : Shape := ⟨3, ![8, 2048, 2048]⟩
abbrev S8x2048x512 : Shape := ⟨3, ![8, 2048, 512]⟩
abbrev S2x2048x2048 : Shape := ⟨3, ![2, 2048, 2048]⟩
abbrev S16x6144 : Shape := ⟨2, ![16, 6144]⟩
abbrev S2x4x512x2048 : Shape := ⟨4, ![2, 4, 512, 2048]⟩
abbrev S1x512x2048 : Shape := ⟨3, ![1, 512, 2048]⟩
abbrev S1x512x512 : Shape := ⟨3, ![1, 512, 512]⟩
abbrev S1x4x512x2048 : Shape := ⟨4, ![1, 4, 512, 2048]⟩
abbrev S512x512 : Shape := ⟨2, ![512, 512]⟩
abbrev S1x1x512x2048 : Shape := ⟨4, ![1, 1, 512, 2048]⟩
abbrev S512x2048 : Shape := ⟨2, ![512, 2048]⟩
abbrev S1x2048 : Shape := ⟨2, ![1, 2048]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S2x2048x2048, .f32⟩
  | .hbm, ⟨6, _⟩ => ⟨S16x6144, .f32⟩
  | .hbm, ⟨7, _⟩ => ⟨S2x2048x2048, .bf16⟩
  | .hbm, ⟨8, _⟩ => ⟨S2x4x512x2048, .bf16⟩
  | .hbm, ⟨9, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x4x512x2048, .bf16⟩
  | .local _ .vmem, ⟨11, _⟩ => ⟨S16x6144, .f32⟩
  | .local _ .vmem, ⟨12, _⟩ => ⟨S1x512x2048, .f32⟩
  | .local _ .vmem, ⟨13, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v23 : Index := Scalar.indexCast arg0
  let c4096 : Index := 4096#32
  ![v23.toNat, 4096]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojReferenceIdeal.lean ====
abbrev S8x2048x2048 : Shape := ⟨3, ![8, 2048, 2048]⟩
abbrev S8x2048x512 : Shape := ⟨3, ![8, 2048, 512]⟩
abbrev S2x2048x2048 : Shape := ⟨3, ![2, 2048, 2048]⟩
abbrev S16x6144 : Shape := ⟨2, ![16, 6144]⟩
abbrev S8x2048 : Shape := ⟨2, ![8, 2048]⟩
abbrev S8x1x2048 : Shape := ⟨3, ![8, 1, 2048]⟩
abbrev S1x2048x2048 : Shape := ⟨3, ![1, 2048, 2048]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S8x2048x512, .bf16⟩
  | .hbm, ⟨5, _⟩ => ⟨S2x2048x2048, .f32⟩
  | .hbm, ⟨6, _⟩ => ⟨S16x6144, .f32⟩
  | .hbm, ⟨7, _⟩ => ⟨S8x2048, .f32⟩
  | .hbm, ⟨8, _⟩ => ⟨S8x1x2048, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S8x2048x2048, .f32⟩
  | .hbm, ⟨14, _⟩ => ⟨S1x2048x2048, .f32⟩
  | .hbm, ⟨15, _⟩ => ⟨S2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== InprojCtx.lean ====
abbrev S8x256x2048 : Shape := ⟨3, ![8, 256, 2048]⟩
abbrev S16x6144 : Shape := ⟨2, ![16, 6144]⟩
abbrev S1x2048 : Shape := ⟨2, ![1, 2048]⟩
abbrev S2x7168x2048 : Shape := ⟨3, ![2, 7168, 2048]⟩
abbrev S8x56x256x128 : Shape := ⟨4, ![8, 56, 256, 128]⟩
abbrev S4x256x2048 : Shape := ⟨3, ![4, 256, 2048]⟩
abbrev S1x1792x2048 : Shape := ⟨3, ![1, 1792, 2048]⟩
abbrev S4x14x256x128 : Shape := ⟨4, ![4, 14, 256, 128]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1792x2048 : Shape := ⟨2, ![1792, 2048]⟩
abbrev S1024x1792 : Shape := ⟨2, ![1024, 1792]⟩
abbrev S256x128 : Shape := ⟨2, ![256, 128]⟩
abbrev S1x1x256x128 : Shape := ⟨4, ![1, 1, 256, 128]⟩

abbrev nBuf : Space → Nat
  | .hbm => 5
  | .vmem => 9
  | .smem => 0
  | _ => 0

abbrev bufTy : (tb : Table) → Fin (tcTables nBuf tb) → BufTy
  | .hbm, ⟨0, _⟩ => ⟨S8x256x2048, .f32⟩
  | .hbm, ⟨1, _⟩ => ⟨S16x6144, .f32⟩
  | .hbm, ⟨2, _⟩ => ⟨S1x2048, .f32⟩
  | .hbm, ⟨3, _⟩ => ⟨S2x7168x2048, .bf16⟩
  | .hbm, ⟨4, _⟩ => ⟨S8x56x256x128, .bf16⟩
  | .local _ .vmem, ⟨0, _⟩ => ⟨S4x256x2048, .f32⟩
  | .local _ .vmem, ⟨1, _⟩ => ⟨S4x256x2048, .f32⟩
  | .local _ .vmem, ⟨2, _⟩ => ⟨S16x6144, .f32⟩
  | .local _ .vmem, ⟨3, _⟩ => ⟨S1x2048, .f32⟩
  | .local _ .vmem, ⟨4, _⟩ => ⟨S1x1792x2048, .bf16⟩
  | .local _ .vmem, ⟨5, _⟩ => ⟨S1x1792x2048, .bf16⟩
  | .local _ .vmem, ⟨6, _⟩ => ⟨S4x14x256x128, .bf16⟩
  | .local _ .vmem, ⟨7, _⟩ => ⟨S4x14x256x128, .bf16⟩
  | .local _ .vmem, ⟨8, _⟩ => ⟨S1024x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1792x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S4x14x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InprojCtxReferenceIdeal.lean ====
abbrev S8x256x2048 : Shape := ⟨3, ![8, 256, 2048]⟩
abbrev S16x6144 : Shape := ⟨2, ![16, 6144]⟩
abbrev S1x2048 : Shape := ⟨2, ![1, 2048]⟩
abbrev S2x7168x2048 : Shape := ⟨3, ![2, 7168, 2048]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S1x7168x2048 : Shape := ⟨3, ![1, 7168, 2048]⟩
abbrev S7168x2048 : Shape := ⟨2, ![7168, 2048]⟩
abbrev S8x256x7168 : Shape := ⟨3, ![8, 256, 7168]⟩
abbrev S8x256x56x128 : Shape := ⟨4, ![8, 256, 56, 128]⟩
abbrev S8x56x256x128 : Shape := ⟨4, ![8, 56, 256, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S16x6144, .f32⟩
  | .hbm, ⟨2, _⟩ => ⟨S1x2048, .f32⟩
  | .hbm, ⟨3, _⟩ => ⟨S2x7168x2048, .bf16⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S2048, .f32⟩
  | .hbm, ⟨9, _⟩ => ⟨S8x256x2048, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x2048, .f32⟩
  | .hbm, ⟨21, _⟩ => ⟨S8x256x2048, .f32⟩
  | .hbm, ⟨22, _⟩ => ⟨S1x1x2048, .f32⟩
  | .hbm, ⟨23, _⟩ => ⟨S8x256x2048, .f32⟩
  | .hbm, ⟨24, _⟩ => ⟨S8x256x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S8x256x2048, .f32⟩
  | .hbm, ⟨30, _⟩ => ⟨S8x256x2048, .f32⟩
  | .hbm, ⟨31, _⟩ => ⟨S1x1x2048, .f32⟩
  | .hbm, ⟨32, _⟩ => ⟨S8x256x2048, .f32⟩
  | .hbm, ⟨33, _⟩ => ⟨S8x256x2048, .f32⟩
  | .hbm, ⟨34, _⟩ => ⟨S1x7168x2048, .bf16⟩
  | .hbm, ⟨35, _⟩ => ⟨S7168x2048, .bf16⟩
  | .hbm, ⟨36, _⟩ => ⟨S7168x2048, .f32⟩
  | .hbm, ⟨37, _⟩ => ⟨S8x256x7168, .f32⟩
  | .hbm, ⟨38, _⟩ => ⟨S8x256x56x128, .f32⟩
  | .hbm, ⟨39, _⟩ => ⟨S8x56x256x128, .f32⟩
  | .hbm, ⟨40, _⟩ => ⟨S8x56x256x128, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== OutprojCtx.lean ====
abbrev S8x256x2048 : Shape := ⟨3, ![8, 256, 2048]⟩
abbrev S2x2048x2048 : Shape := ⟨3, ![2, 2048, 2048]⟩
abbrev S16x6144 : Shape := ⟨2, ![16, 6144]⟩
abbrev S2x4x512x2048 : Shape := ⟨4, ![2, 4, 512, 2048]⟩
abbrev S1x256x2048 : Shape := ⟨3, ![1, 256, 2048]⟩
abbrev S1x256x512 : Shape := ⟨3, ![1, 256, 512]⟩
abbrev S1x4x512x2048 : Shape := ⟨4, ![1, 4, 512, 2048]⟩
abbrev S256x512 : Shape := ⟨2, ![256, 512]⟩
abbrev S1x1x512x2048 : Shape := ⟨4, ![1, 1, 512, 2048]⟩
abbrev S512x2048 : Shape := ⟨2, ![512, 2048]⟩
abbrev S256x2048 : Shape := ⟨2, ![256, 2048]⟩
abbrev S1x2048 : Shape := ⟨2, ![1, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .bf16⟩
  | .hbm, ⟨2, _⟩ => ⟨S2x2048x2048, .f32⟩
  | .hbm, ⟨3, _⟩ => ⟨S16x6144, .f32⟩
  | .hbm, ⟨4, _⟩ => ⟨S2x2048x2048, .bf16⟩
  | .hbm, ⟨5, _⟩ => ⟨S2x4x512x2048, .bf16⟩
  | .hbm, ⟨6, _⟩ => ⟨S8x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x4x512x2048, .bf16⟩
  | .local _ .vmem, ⟨11, _⟩ => ⟨S16x6144, .f32⟩
  | .local _ .vmem, ⟨12, _⟩ => ⟨S1x256x2048, .f32⟩
  | .local _ .vmem, ⟨13, _⟩ => ⟨S1x256x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojCtxReferenceIdeal.lean ====
abbrev S8x256x2048 : Shape := ⟨3, ![8, 256, 2048]⟩
abbrev S2x2048x2048 : Shape := ⟨3, ![2, 2048, 2048]⟩
abbrev S16x6144 : Shape := ⟨2, ![16, 6144]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S1x1x2048 : Shape := ⟨3, ![1, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .bf16⟩
  | .hbm, ⟨2, _⟩ => ⟨S2x2048x2048, .f32⟩
  | .hbm, ⟨3, _⟩ => ⟨S16x6144, .f32⟩
  | .hbm, ⟨4, _⟩ => ⟨S1x2048, .f32⟩
  | .hbm, ⟨5, _⟩ => ⟨S2048, .f32⟩
  | .hbm, ⟨6, _⟩ => ⟨S8x256x2048, .f32⟩
  | .hbm, ⟨7, _⟩ => ⟨S1x2048x2048, .f32⟩
  | .hbm, ⟨8, _⟩ => ⟨S2048x2048, .f32⟩
  | .hbm, ⟨9, _⟩ => ⟨S8x256x2048, .f32⟩
  | .hbm, ⟨10, _⟩ => ⟨S1x1x2048, .f32⟩
  | .hbm, ⟨11, _⟩ => ⟨S8x256x2048, .f32⟩
  | .hbm, ⟨12, _⟩ => ⟨S8x256x2048, .f32⟩
  | .hbm, ⟨13, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InprojLast.lean ====
abbrev S8x256x2048 : Shape := ⟨3, ![8, 256, 2048]⟩
abbrev S16x6144 : Shape := ⟨2, ![16, 6144]⟩
abbrev S1x2048 : Shape := ⟨2, ![1, 2048]⟩
abbrev S2x7168x2048 : Shape := ⟨3, ![2, 7168, 2048]⟩
abbrev S8x32x256x128 : Shape := ⟨4, ![8, 32, 256, 128]⟩
abbrev S4x256x2048 : Shape := ⟨3, ![4, 256, 2048]⟩
abbrev S1x1024x2048 : Shape := ⟨3, ![1, 1024, 2048]⟩
abbrev S4x8x256x128 : Shape := ⟨4, ![4, 8, 256, 128]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩
abbrev S1x1x256x128 : Shape := ⟨4, ![1, 1, 256, 128]⟩

abbrev nBuf : Space → Nat
  | .hbm => 5
  | .vmem => 9
  | .smem => 0
  | _ => 0

abbrev bufTy : (tb : Table) → Fin (tcTables nBuf tb) → BufTy
  | .hbm, ⟨0, _⟩ => ⟨S8x256x2048, .f32⟩
  | .hbm, ⟨1, _⟩ => ⟨S16x6144, .f32⟩
  | .hbm, ⟨2, _⟩ => ⟨S1x2048, .f32⟩
  | .hbm, ⟨3, _⟩ => ⟨S2x7168x2048, .bf16⟩
  | .hbm, ⟨4, _⟩ => ⟨S8x32x256x128, .bf16⟩
  | .local _ .vmem, ⟨0, _⟩ => ⟨S4x256x2048, .f32⟩
  | .local _ .vmem, ⟨1, _⟩ => ⟨S4x256x2048, .f32⟩
  | .local _ .vmem, ⟨2, _⟩ => ⟨S16x6144, .f32⟩
  | .local _ .vmem, ⟨3, _⟩ => ⟨S1x2048, .f32⟩
  | .local _ .vmem, ⟨4, _⟩ => ⟨S1x1024x2048, .bf16⟩
  | .local _ .vmem, ⟨5, _⟩ => ⟨S1x1024x2048, .bf16⟩
  | .local _ .vmem, ⟨6, _⟩ => ⟨S4x8x256x128, .bf16⟩
  | .local _ .vmem, ⟨7, _⟩ => ⟨S4x8x256x128, .bf16⟩
  | .local _ .vmem, ⟨8, _⟩ => ⟨S1024x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let c0_i32 : BitVec 32 := 0#32
  let c0_i32_0 : BitVec 32 := 0#32
  ![c1_i32.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S4x8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InprojLastReferenceIdeal.lean ====
abbrev S8x256x2048 : Shape := ⟨3, ![8, 256, 2048]⟩
abbrev S16x6144 : Shape := ⟨2, ![16, 6144]⟩
abbrev S1x2048 : Shape := ⟨2, ![1, 2048]⟩
abbrev S2x7168x2048 : Shape := ⟨3, ![2, 7168, 2048]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S1x7168x2048 : Shape := ⟨3, ![1, 7168, 2048]⟩
abbrev S7168x2048 : Shape := ⟨2, ![7168, 2048]⟩
abbrev S8x256x7168 : Shape := ⟨3, ![8, 256, 7168]⟩
abbrev S8x256x1024 : Shape := ⟨3, ![8, 256, 1024]⟩
abbrev S8x256x4096 : Shape := ⟨3, ![8, 256, 4096]⟩
abbrev S8x256x32x128 : Shape := ⟨4, ![8, 256, 32, 128]⟩
abbrev S8x32x256x128 : Shape := ⟨4, ![8, 32, 256, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S16x6144, .f32⟩
  | .hbm, ⟨2, _⟩ => ⟨S1x2048, .f32⟩
  | .hbm, ⟨3, _⟩ => ⟨S2x7168x2048, .bf16⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S2048, .f32⟩
  | .hbm, ⟨9, _⟩ => ⟨S8x256x2048, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x2048, .f32⟩
  | .hbm, ⟨21, _⟩ => ⟨S8x256x2048, .f32⟩
  | .hbm, ⟨22, _⟩ => ⟨S1x1x2048, .f32⟩
  | .hbm, ⟨23, _⟩ => ⟨S8x256x2048, .f32⟩
  | .hbm, ⟨24, _⟩ => ⟨S8x256x2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x1x2048, .f32⟩
  | .hbm, ⟨29, _⟩ => ⟨S8x256x2048, .f32⟩
  | .hbm, ⟨30, _⟩ => ⟨S8x256x2048, .f32⟩
  | .hbm, ⟨31, _⟩ => ⟨S1x1x2048, .f32⟩
  | .hbm, ⟨32, _⟩ => ⟨S8x256x2048, .f32⟩
  | .hbm, ⟨33, _⟩ => ⟨S8x256x2048, .f32⟩
  | .hbm, ⟨34, _⟩ => ⟨S1x7168x2048, .bf16⟩
  | .hbm, ⟨35, _⟩ => ⟨S7168x2048, .bf16⟩
  | .hbm, ⟨36, _⟩ => ⟨S7168x2048, .f32⟩
  | .hbm, ⟨37, _⟩ => ⟨S8x256x7168, .f32⟩
  | .hbm, ⟨38, _⟩ => ⟨S8x256x1024, .f32⟩
  | .hbm, ⟨39, _⟩ => ⟨S8x256x1024, .f32⟩
  | .hbm, ⟨40, _⟩ => ⟨S8x256x1024, .f32⟩
  | .hbm, ⟨41, _⟩ => ⟨S8x256x1024, .f32⟩
  | .hbm, ⟨42, _⟩ => ⟨S8x256x4096, .f32⟩
  | .hbm, ⟨43, _⟩ => ⟨S8x256x32x128, .f32⟩
  | .hbm, ⟨44, _⟩ => ⟨S8x32x256x128, .f32⟩
  | .hbm, ⟨45, _⟩ => ⟨S8x32x256x128, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Proof.AttnOff.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The loads of prepared head 0 are at the slot of the second coordinate's parity. -/
theorem off1_eq : ∀ i : grid0.Coords, k0_off1 i = ![(i 1).val % 2, 0, 0, 0] := by decide +kernel
instance (i : grid0.Coords) : ClosedOff (k0_off1 i) := ⟨![(i 1).val % 2, 0, 0, 0], off1_eq i⟩
/-- The loads of prepared head 1 are at the slot of the second coordinate's parity. -/
theorem off2_eq : ∀ i : grid0.Coords, k0_off2 i = ![(i 1).val % 2, 1, 0, 0] := by decide +kernel
instance (i : grid0.Coords) : ClosedOff (k0_off2 i) := ⟨![(i 1).val % 2, 1, 0, 0], off2_eq i⟩
/-- The loads of prepared head 2 are at the slot of the second coordinate's parity. -/
theorem off3_eq : ∀ i : grid0.Coords, k0_off3 i = ![(i 1).val % 2, 2, 0, 0] := by decide +kernel
instance (i : grid0.Coords) : ClosedOff (k0_off3 i) := ⟨![(i 1).val % 2, 2, 0, 0], off3_eq i⟩
/-- The loads of prepared head 3 are at the slot of the second coordinate's parity. -/
theorem off4_eq : ∀ i : grid0.Coords, k0_off4 i = ![(i 1).val % 2, 3, 0, 0] := by decide +kernel
instance (i : grid0.Coords) : ClosedOff (k0_off4 i) := ⟨![(i 1).val % 2, 3, 0, 0], off4_eq i⟩
/-- The stores of the next block's head 0 are at the other slot. -/
theorem off6_eq : ∀ i : grid0.Coords, k0_off6 i = ![1 - (i 1).val % 2, 0, 0, 0] := by decide +kernel
instance (i : grid0.Coords) : ClosedOff (k0_off6 i) := ⟨![1 - (i 1).val % 2, 0, 0, 0], off6_eq i⟩
/-- The stores of the next block's head 1 are at the other slot. -/
theorem off7_eq : ∀ i : grid0.Coords, k0_off7 i = ![1 - (i 1).val % 2, 1, 0, 0] := by decide +kernel
instance (i : grid0.Coords) : ClosedOff (k0_off7 i) := ⟨![1 - (i 1).val % 2, 1, 0, 0], off7_eq i⟩
/-- The stores of the next block's head 2 are at the other slot. -/
theorem off8_eq : ∀ i : grid0.Coords, k0_off8 i = ![1 - (i 1).val % 2, 2, 0, 0] := by decide +kernel
instance (i : grid0.Coords) : ClosedOff (k0_off8 i) := ⟨![1 - (i 1).val % 2, 2, 0, 0], off8_eq i⟩
/-- The stores of the next block's head 3 are at the other slot. -/
theorem off9_eq : ∀ i : grid0.Coords, k0_off9 i = ![1 - (i 1).val % 2, 3, 0, 0] := by decide +kernel
instance (i : grid0.Coords) : ClosedOff (k0_off9 i) := ⟨![1 - (i 1).val % 2, 3, 0, 0], off9_eq i⟩
/-- The branch that prepares the keys and values runs exactly at second coordinate 0. -/
theorem cond1_iff : ∀ i : grid0.Coords, k0_cond1 i = 1#1 ↔ (i 1).val = 0 := by decide +kernel

end Cert.KernelIdeal.Attn

end
-- ==== Proof.RunB.lean ====
module

public import proofs.«01_k».proof.Proof.AttnOff

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body's triple at a point whose second coordinate is not 0: on whole staging memrefs with the inputs at `x·`, the output at
    anything and the scratch at `s·`, the body runs to the same inputs, the output with the pieces `L` written and the
    scratch it stores into with its own pieces written over what it held. The pieces are what the run finds. -/
noncomputable def runB (c : Dev nD) (i : grid0.Coords) (arg2 : Memref sig .tc .vmem S1x4x512x128 .bf16) (harg2 : arg2.IsWhole) (arg3 : Memref sig .tc .vmem S1x4x512x128 .bf16) (harg3 : arg3.IsWhole) (arg4 : Memref sig .tc .vmem S1x2x2048x128 .bf16) (harg4 : arg4.IsWhole) (arg5 : Memref sig .tc .vmem S1x2x256x128 .bf16) (harg5 : arg5.IsWhole) (arg6 : Memref sig .tc .vmem S1x2x2048x128 .bf16) (harg6 : arg6.IsWhole) (arg7 : Memref sig .tc .vmem S1x2x256x128 .bf16) (harg7 : arg7.IsWhole) (arg8 : Memref sig .tc .vmem S1x4x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x512 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2x4x512x128 .bf16) (harg16 : arg16.IsWhole) (hc0 : ¬k0_cond1 i = 1#1)
    (x0 : Vec F S1x4x512x128 .bf16) (x1 : Vec F S1x4x512x128 .bf16) (x2 : Vec F S1x2x2048x128 .bf16) (x3 : Vec F S1x2x256x128 .bf16) (x4 : Vec F S1x2x2048x128 .bf16) (x5 : Vec F S1x2x256x128 .bf16) (x6 : Vec F S1x4x512x128 .bf16) (x7 : Vec F S2048x128 .f32) (x8 : Vec F S2048x128 .f32) (x9 : Vec F S1x128 .f32) (x10 : Vec F S1x128 .f32) (s0 : Vec F S2x2304x128 .bf16) (s1 : Vec F S2x2304x256 .bf16) (s2 : Vec F S2x4x512x128 .bf16) :
    Σ' (L : List (View.Piece (Elt F) S1x512x512 .bf16)), { L2 : List (View.Piece (Elt F) S2x4x512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s0 ∗ owns (c : Thread nD τ) arg15 fullShare s1 ∗ owns (c : Thread nD τ) arg16 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L) ∗ owns (c : Thread nD τ) arg14 fullShare s0 ∗ owns (c : Thread nD τ) arg15 fullShare s1 ∗ (arg16.view.loc (c : Thread nD τ) ↦[arg16.view.set]{fullShare} arg16.view.writes (Elt F) (harg16.unread s2) L2)) -∗ K ⟨⟩))
          ⊢ wp frame (wpE (defs₀ (F := F)) Variants.none c none) E (cc0_attn_a i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_attn_a_eq_skeleton]; unfold cc0_attn_a_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%g0, %hg0, G0⟩, ⟨%g1, %hg1, G1⟩, ⟨%g2, %hg2, G2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hg0; obtain rfl := harg15.eq_unread hg1; obtain rfl := harg16.eq_unread hg2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [G0]
    · iexists _; isplitr; · ipureintro; exact harg14.read_unread _
      iexact G0
    isplitl [G1]
    · iexists _; isplitr; · ipureintro; exact harg15.read_unread _
      iexact G1
    iexact G2

end Cert.KernelIdeal.Attn

end
-- ==== Proof.RunA.lean ====
module

public import proofs.«01_k».proof.Proof.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body's triple at a point whose second coordinate is 0: on whole staging memrefs with the inputs at `x·`, the output at
    anything and the scratch at `s·`, the body runs to the same inputs, the output with the pieces `L` written and the
    scratch it stores into with its own pieces written over what it held. The pieces are what the run finds. -/
noncomputable def runA (c : Dev nD) (i : grid0.Coords) (arg2 : Memref sig .tc .vmem S1x4x512x128 .bf16) (harg2 : arg2.IsWhole) (arg3 : Memref sig .tc .vmem S1x4x512x128 .bf16) (harg3 : arg3.IsWhole) (arg4 : Memref sig .tc .vmem S1x2x2048x128 .bf16) (harg4 : arg4.IsWhole) (arg5 : Memref sig .tc .vmem S1x2x256x128 .bf16) (harg5 : arg5.IsWhole) (arg6 : Memref sig .tc .vmem S1x2x2048x128 .bf16) (harg6 : arg6.IsWhole) (arg7 : Memref sig .tc .vmem S1x2x256x128 .bf16) (harg7 : arg7.IsWhole) (arg8 : Memref sig .tc .vmem S1x4x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x512 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2x4x512x128 .bf16) (harg16 : arg16.IsWhole) (hc0 : k0_cond1 i = 1#1)
    (x0 : Vec F S1x4x512x128 .bf16) (x1 : Vec F S1x4x512x128 .bf16) (x2 : Vec F S1x2x2048x128 .bf16) (x3 : Vec F S1x2x256x128 .bf16) (x4 : Vec F S1x2x2048x128 .bf16) (x5 : Vec F S1x2x256x128 .bf16) (x6 : Vec F S1x4x512x128 .bf16) (x7 : Vec F S2048x128 .f32) (x8 : Vec F S2048x128 .f32) (x9 : Vec F S1x128 .f32) (x10 : Vec F S1x128 .f32) (s0 : Vec F S2x2304x128 .bf16) (s1 : Vec F S2x2304x256 .bf16) (s2 : Vec F S2x4x512x128 .bf16) :
    Σ' (L : List (View.Piece (Elt F) S1x512x512 .bf16)) (L0 : List (View.Piece (Elt F) S2x2304x128 .bf16)) (L1 : List (View.Piece (Elt F) S2x2304x256 .bf16)), { L2 : List (View.Piece (Elt F) S2x4x512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s0 ∗ owns (c : Thread nD τ) arg15 fullShare s1 ∗ owns (c : Thread nD τ) arg16 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L) ∗ (arg14.view.loc (c : Thread nD τ) ↦[arg14.view.set]{fullShare} arg14.view.writes (Elt F) (harg14.unread s0) L0) ∗ (arg15.view.loc (c : Thread nD τ) ↦[arg15.view.set]{fullShare} arg15.view.writes (Elt F) (harg15.unread s1) L1) ∗ (arg16.view.loc (c : Thread nD τ) ↦[arg16.view.set]{fullShare} arg16.view.writes (Elt F) (harg16.unread s2) L2)) -∗ K ⟨⟩))
          ⊢ wp frame (wpE (defs₀ (F := F)) Variants.none c none) E (cc0_attn_a i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_attn_a_eq_skeleton]; unfold cc0_attn_a_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%g0, %hg0, G0⟩, ⟨%g1, %hg1, G1⟩, ⟨%g2, %hg2, G2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hg0; obtain rfl := harg15.eq_unread hg1; obtain rfl := harg16.eq_unread hg2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [G0]
    · iexact G0
    isplitl [G1]
    · iexact G1
    iexact G2

end Cert.KernelIdeal.Attn

end
-- ==== Proof.Sem.lean ====
module

public import proofs.«01_k».proof.Proof.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-! ## What one point computes, as functions of the blocks -/

/-- Head `h` (a row of the window) of a query or gate block. -/
abbrev hd0 (X : Vec F S1x4x512x128 .bf16) : Vec F S1x1x512x128 .bf16 := View.ld X (Rect.unit ![0, 0, 0, 0] S1x1x512x128.size inb_S1x4x512x128_S1x1x512x128_0_0_0_0)
abbrev hd1 (X : Vec F S1x4x512x128 .bf16) : Vec F S1x1x512x128 .bf16 := View.ld X (Rect.unit ![0, 1, 0, 0] S1x1x512x128.size inb_S1x4x512x128_S1x1x512x128_0_1_0_0)
abbrev hd2 (X : Vec F S1x4x512x128 .bf16) : Vec F S1x1x512x128 .bf16 := View.ld X (Rect.unit ![0, 2, 0, 0] S1x1x512x128.size inb_S1x4x512x128_S1x1x512x128_0_2_0_0)
abbrev hd3 (X : Vec F S1x4x512x128 .bf16) : Vec F S1x1x512x128 .bf16 := View.ld X (Rect.unit ![0, 3, 0, 0] S1x1x512x128.size inb_S1x4x512x128_S1x1x512x128_0_3_0_0)

/-- The gain row as the body loads it. -/
abbrev gn (x : Vec F S1x128 .f32) : Vec F S1x128 .f32 := View.ld x (Rect.unit ![0, 0] S1x128.size inb_S1x128_S1x128_0_0)

/-- One prepared query head: the head normalised, rotated by the table rows and scaled. -/
def qh (ct st : Vec F S512x128 .f32) (xh : Vec F S1x1x512x128 .bf16) (g : Vec F S1x128 .f32) : Vec F S1x1x512x128 .bf16 :=
  k0_pay40 (k0_pay36 ct) (k0_pay37 st) xh (gn g)

/-- The unnormalised attention of two stacked query heads over one key/value head, its row sums in column 128. -/
def acc2 (q0 q1 : Vec F S1x1x512x128 .bf16) (k1 : Vec F S1x1280x128 .bf16) (v1 : Vec F S1x1280x256 .bf16)
    (k2 : Vec F S1x1024x128 .bf16) (v2 : Vec F S1x1024x256 .bf16) : FVec F S1024x256 .f32 :=
  k0_pay55 (k0_pay34 q0 q1) (k0_pay49 k1) (k0_pay50 v1) (k0_pay51 k2) (k0_pay52 v2)

/-- `acc2` over key/value head 0 of the prepared keys `K` and values `V`. -/
def accK0 (K : Vec F S2x2304x128 .bf16) (V : Vec F S2x2304x256 .bf16) (q0 q1 : Vec F S1x1x512x128 .bf16) : FVec F S1024x256 .f32 :=
  acc2 q0 q1 (View.ld K (Rect.unit ![0, 0, 0] S1x1280x128.size inb_S2x2304x128_S1x1280x128_0_0_0))
    (View.ld V (Rect.unit ![0, 0, 0] S1x1280x256.size inb_S2x2304x256_S1x1280x256_0_0_0))
    (View.ld K (Rect.unit ![0, 1280, 0] S1x1024x128.size inb_S2x2304x128_S1x1024x128_0_1280_0))
    (View.ld V (Rect.unit ![0, 1280, 0] S1x1024x256.size inb_S2x2304x256_S1x1024x256_0_1280_0))

/-- `acc2` over key/value head 1 of the prepared keys `K` and values `V`. -/
def accK1 (K : Vec F S2x2304x128 .bf16) (V : Vec F S2x2304x256 .bf16) (q2 q3 : Vec F S1x1x512x128 .bf16) : FVec F S1024x256 .f32 :=
  acc2 q2 q3 (View.ld K (Rect.unit ![1, 0, 0] S1x1280x128.size inb_S2x2304x128_S1x1280x128_1_0_0))
    (View.ld V (Rect.unit ![1, 0, 0] S1x1280x256.size inb_S2x2304x256_S1x1280x256_1_0_0))
    (View.ld K (Rect.unit ![1, 1280, 0] S1x1024x128.size inb_S2x2304x128_S1x1024x128_1_1280_0))
    (View.ld V (Rect.unit ![1, 1280, 0] S1x1024x256.size inb_S2x2304x256_S1x1024x256_1_1280_0))

/-- The four column stripes one point stores into its output block, the last first. -/
def outL (K : Vec F S2x2304x128 .bf16) (V : Vec F S2x2304x256 .bf16) (q0 q1 q2 q3 : Vec F S1x1x512x128 .bf16)
    (x6 : Vec F S1x4x512x128 .bf16) : List (View.Piece (Elt F) S1x512x512 .bf16) :=
  [⟨Rect.unit ![0, 0, 384] S1x512x128.size inb_S1x512x512_S1x512x128_0_0_384, k0_pay1 (k0_pay62 (accK1 K V q2 q3) (hd3 x6))⟩,
   ⟨Rect.unit ![0, 0, 256] S1x512x128.size inb_S1x512x512_S1x512x128_0_0_256, k0_pay61 (accK1 K V q2 q3) (hd2 x6)⟩,
   ⟨Rect.unit ![0, 0, 128] S1x512x128.size inb_S1x512x512_S1x512x128_0_0_128, k0_pay1 (k0_pay62 (accK0 K V q0 q1) (hd1 x6))⟩,
   ⟨Rect.unit ![0, 0, 0] S1x512x128.size inb_S1x512x512_S1x512x128_0_0_0, k0_pay61 (accK0 K V q0 q1) (hd0 x6)⟩]

/-! ## The body's spellings of these functions -/

theorem pay58_eq (q0 q1 : Vec F S1x1x512x128 .bf16) (k1 : Vec F S1x1280x128 .bf16) (v1 : Vec F S1x1280x256 .bf16)
    (k2 : Vec F S1x1024x128 .bf16) (v2 : Vec F S1x1024x256 .bf16) (g : Vec F S1x1x512x128 .bf16) :
    k0_pay58 (k0_pay57 (k0_pay47 v1) (k0_pay48 v2) (k0_pay53 (k0_pay34 q0 q1) k1) (k0_pay54 (k0_pay34 q0 q1) k2) g)
      = k0_pay61 (acc2 q0 q1 k1 v1 k2 v2) g := rfl

theorem pay59_eq (q0 q1 : Vec F S1x1x512x128 .bf16) (k1 : Vec F S1x1280x128 .bf16) (v1 : Vec F S1x1280x256 .bf16)
    (k2 : Vec F S1x1024x128 .bf16) (v2 : Vec F S1x1024x256 .bf16) (g : Vec F S1x1x512x128 .bf16) :
    k0_pay59 (k0_pay56 (k0_pay47 v1) (k0_pay48 v2) (k0_pay53 (k0_pay34 q0 q1) k1) (k0_pay54 (k0_pay34 q0 q1) k2)) g
      = k0_pay1 (k0_pay62 (acc2 q0 q1 k1 v1 k2 v2) g) := rfl

theorem pay55_eq (q0 q1 : Vec F S1x1x512x128 .bf16) (k1 : Vec F S1x1280x128 .bf16) (v1 : Vec F S1x1280x256 .bf16)
    (k2 : Vec F S1x1024x128 .bf16) (v2 : Vec F S1x1024x256 .bf16) :
    k0_pay55 (k0_pay35 q0 q1) (k0_pay49 k1) (k0_pay50 v1) (k0_pay51 k2) (k0_pay52 v2) = acc2 q0 q1 k1 v1 k2 v2 := rfl

theorem pay46_eq (ct st : Vec F S512x128 .f32) (xh : Vec F S1x1x512x128 .bf16) (g : Vec F S1x128 .f32) :
    k0_pay46 (k0_pay37 st) (k0_pay44 xh (gn g)) (k0_pay45 (k0_pay36 ct) xh (gn g)) 64#32 = qh ct st xh g := rfl
theorem pay43_eq (ct st : Vec F S512x128 .f32) (xh : Vec F S1x1x512x128 .bf16) (g : Vec F S1x128 .f32) :
    k0_pay43 (k0_pay36 ct) (k0_pay37 st) (k0_pay41 xh) (k0_pay42 (gn g)) = qh ct st xh g := rfl
theorem pay39_eq (ct st : Vec F S512x128 .f32) (xh : Vec F S1x1x512x128 .bf16) (g : Vec F S1x128 .f32) :
    k0_pay39 (k0_pay38 ct st xh (gn g)) = qh ct st xh g := rfl

end Cert.KernelIdeal.Attn

end
-- ==== Proof.Runs.lean ====
module

public import proofs.«01_k».proof.Proof.Sem

public import Idealize.ShloMosaic.Lib.WritesUnit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-! ## Keys and values prepared at the first point of a batch row, queries prepared one point ahead -/

/-- A context key head, normalised. -/
abbrev kc (x : Vec F S1x1x256x128 .bf16) (g : Vec F S1x128 .f32) : FVec F S1x256x128 .bf16 :=
  k0_pay15 x (gn g)
/-- A latent key head, normalised and rotated. -/
abbrev kl (x : Vec F S1x1x2048x128 .bf16) (ct st : Vec F S2048x128 .f32) (g : Vec F S1x128 .f32) : FVec F S1x2048x128 .bf16 :=
  k0_pay8 (k0_pay3 x) (k0_pay4 (gn g)) (k0_pay5 (View.ld ct (Rect.unit ![0, 0] S2048x128.size inb_S2048x128_S2048x128_0_0)))
    (k0_pay6 (View.ld st (Rect.unit ![0, 0] S2048x128.size inb_S2048x128_S2048x128_0_0))) (k0_pay7 x) (Scalar.ofBits .f32 0x43000000#32)

/-- The prepared keys: per key/value head the context rows, then the latent rows (the last store first). -/
def kL (x2 : Vec F S1x2x2048x128 .bf16) (x3 : Vec F S1x2x256x128 .bf16) (x7 x8 : Vec F S2048x128 .f32) (x10 : Vec F S1x128 .f32) :
    List (View.Piece (Elt F) S2x2304x128 .bf16) :=
  [⟨Rect.unit ![1, 256, 0] S1x2048x128.size inb_S2x2304x128_S1x2048x128_1_256_0, kl (View.ld x2 (Rect.unit ![0, 1, 0, 0] S1x1x2048x128.size inb_S1x2x2048x128_S1x1x2048x128_0_1_0_0)) x7 x8 x10⟩,
   ⟨Rect.unit ![1, 0, 0] S1x256x128.size inb_S2x2304x128_S1x256x128_1_0_0, kc (View.ld x3 (Rect.unit ![0, 1, 0, 0] S1x1x256x128.size inb_S1x2x256x128_S1x1x256x128_0_1_0_0)) x10⟩,
   ⟨Rect.unit ![0, 256, 0] S1x2048x128.size inb_S2x2304x128_S1x2048x128_0_256_0, kl (View.ld x2 (Rect.unit ![0, 0, 0, 0] S1x1x2048x128.size inb_S1x2x2048x128_S1x1x2048x128_0_0_0_0)) x7 x8 x10⟩,
   ⟨Rect.unit ![0, 0, 0] S1x256x128.size inb_S2x2304x128_S1x256x128_0_0_0, kc (View.ld x3 (Rect.unit ![0, 0, 0, 0] S1x1x256x128.size inb_S1x2x256x128_S1x1x256x128_0_0_0_0)) x10⟩]

/-- The prepared values with their column of ones: per key/value head the context rows, then the latent rows. -/
def vL (x4 : Vec F S1x2x2048x128 .bf16) (x5 : Vec F S1x2x256x128 .bf16) : List (View.Piece (Elt F) S2x2304x256 .bf16) :=
  [⟨Rect.unit ![1, 256, 0] S1x2048x256.size inb_S2x2304x256_S1x2048x256_1_256_0, k0_pay21 (View.ld x4 (Rect.unit ![0, 1, 0, 0] S1x1x2048x128.size inb_S1x2x2048x128_S1x1x2048x128_0_1_0_0))⟩,
   ⟨Rect.unit ![1, 0, 0] S1x256x256.size inb_S2x2304x256_S1x256x256_1_0_0, k0_pay20 (View.ld x5 (Rect.unit ![0, 1, 0, 0] S1x1x256x128.size inb_S1x2x256x128_S1x1x256x128_0_1_0_0))⟩,
   ⟨Rect.unit ![0, 256, 0] S1x2048x256.size inb_S2x2304x256_S1x2048x256_0_256_0, k0_pay21 (View.ld x4 (Rect.unit ![0, 0, 0, 0] S1x1x2048x128.size inb_S1x2x2048x128_S1x1x2048x128_0_0_0_0))⟩,
   ⟨Rect.unit ![0, 0, 0] S1x256x256.size inb_S2x2304x256_S1x256x256_0_0_0, k0_pay20 (View.ld x5 (Rect.unit ![0, 0, 0, 0] S1x1x256x128.size inb_S1x2x256x128_S1x1x256x128_0_0_0_0))⟩]

/-- The table rows of the next query block. -/
abbrev rowsN (i : grid0.Coords) (x : Vec F S2048x128 .f32) : Vec F S512x128 .f32 := View.ld x (Rect.unit (k0_off5 i) S512x128.size (k0_off5_inb i))
/-- The table rows of query block 0. -/
abbrev rows0 (x : Vec F S2048x128 .f32) : Vec F S512x128 .f32 := View.ld x (Rect.unit ![0, 0] S512x128.size inb_S2048x128_S512x128_0_0)

/-- The stores of the next block's prepared heads, at the other slot. -/
def nxtL (i : grid0.Coords) (x1 : Vec F S1x4x512x128 .bf16) (x7 x8 : Vec F S2048x128 .f32) (x9 : Vec F S1x128 .f32) :
    List (View.Piece (Elt F) S2x4x512x128 .bf16) :=
  [⟨Rect.unit (s := S2x4x512x128) (k0_off9 i) S1x1x512x128.size (k0_off9_inb i), qh (rowsN i x7) (rowsN i x8) (hd3 x1) x9⟩,
   ⟨Rect.unit (s := S2x4x512x128) (k0_off8 i) S1x1x512x128.size (k0_off8_inb i), qh (rowsN i x7) (rowsN i x8) (hd2 x1) x9⟩,
   ⟨Rect.unit (s := S2x4x512x128) (k0_off7 i) S1x1x512x128.size (k0_off7_inb i), qh (rowsN i x7) (rowsN i x8) (hd1 x1) x9⟩,
   ⟨Rect.unit (s := S2x4x512x128) (k0_off6 i) S1x1x512x128.size (k0_off6_inb i), qh (rowsN i x7) (rowsN i x8) (hd0 x1) x9⟩]

/-- The stores of block 0's prepared heads, at slot 0. -/
def curL (x0 : Vec F S1x4x512x128 .bf16) (x7 x8 : Vec F S2048x128 .f32) (x9 : Vec F S1x128 .f32) :
    List (View.Piece (Elt F) S2x4x512x128 .bf16) :=
  [⟨Rect.unit (s := S2x4x512x128) ![0, 3, 0, 0] S1x1x512x128.size inb_S2x4x512x128_S1x1x512x128_0_3_0_0, qh (rows0 x7) (rows0 x8) (hd3 x0) x9⟩,
   ⟨Rect.unit (s := S2x4x512x128) ![0, 2, 0, 0] S1x1x512x128.size inb_S2x4x512x128_S1x1x512x128_0_2_0_0, qh (rows0 x7) (rows0 x8) (hd2 x0) x9⟩,
   ⟨Rect.unit (s := S2x4x512x128) ![0, 1, 0, 0] S1x1x512x128.size inb_S2x4x512x128_S1x1x512x128_0_1_0_0, qh (rows0 x7) (rows0 x8) (hd1 x0) x9⟩,
   ⟨Rect.unit (s := S2x4x512x128) ![0, 0, 0, 0] S1x1x512x128.size inb_S2x4x512x128_S1x1x512x128_0_0_0_0, qh (rows0 x7) (rows0 x8) (hd0 x0) x9⟩]

/-! ## A slot of the prepared queries read back after its four stores -/

section Slot

variable {κ : Kind} {sp : Space} (v : View sig κ sp S2x4x512x128 .bf16) (f : v.ty.Contents (Elt F)) (σ : ℕ)
  {o0 o1 o2 o3 o : Fin 4 → ℕ} (e0 : o0 = ![σ, 0, 0, 0]) (e1 : o1 = ![σ, 1, 0, 0]) (e2 : o2 = ![σ, 2, 0, 0]) (e3 : o3 = ![σ, 3, 0, 0])
  (i0 : ∀ a, o0 a + S1x1x512x128.size a ≤ S2x4x512x128.size a) (i1 : ∀ a, o1 a + S1x1x512x128.size a ≤ S2x4x512x128.size a)
  (i2 : ∀ a, o2 a + S1x1x512x128.size a ≤ S2x4x512x128.size a) (i3 : ∀ a, o3 a + S1x1x512x128.size a ≤ S2x4x512x128.size a)
  (io : ∀ a, o a + S1x1x512x128.size a ≤ S2x4x512x128.size a)
  (w0 w1 w2 w3 : Vec F S1x1x512x128 .bf16) (L : List (View.Piece (Elt F) S2x4x512x128 .bf16))

/-- A load at the newest piece's offsets reads its payload. -/
theorem slot_hit {o' : Fin 4 → ℕ} (i' : ∀ a, o' a + S1x1x512x128.size a ≤ S2x4x512x128.size a) (w : Vec F S1x1x512x128 .bf16) (eo : o = o') :
    v.readAt (Elt F) (Rect.unit (s := S2x4x512x128) o S1x1x512x128.size io).toLoadRect (v.writes (Elt F) f (⟨Rect.unit (s := S2x4x512x128) o' S1x1x512x128.size i', w⟩ :: L)) = w := by
  subst eo
  exact funext fun j => View.read_writes_cons_emb v f (Rect.unit (s := S2x4x512x128) o S1x1x512x128.size io) w L j

/-- A load of another head of the slot is not affected by the newest piece. -/
theorem slot_miss {o' : Fin 4 → ℕ} (i' : ∀ a, o' a + S1x1x512x128.size a ≤ S2x4x512x128.size a) (w : Vec F S1x1x512x128 .bf16)
    (ne : o 1 ≠ o' 1) :
    v.readAt (Elt F) (Rect.unit (s := S2x4x512x128) o S1x1x512x128.size io).toLoadRect (v.writes (Elt F) f (⟨Rect.unit (s := S2x4x512x128) o' S1x1x512x128.size i', w⟩ :: L))
      = v.readAt (Elt F) (Rect.unit (s := S2x4x512x128) o S1x1x512x128.size io).toLoadRect (v.writes (Elt F) f L) :=
  funext fun j => View.read_writes_cons_unit_of_not_mem v f i' w L _ rfl 1 (by
    have hj : (j 1).val < 1 := (j 1).isLt
    show (o 1 + 1 * (j 1).val < o' 1 ∨ o' 1 + 1 ≤ o 1 + 1 * (j 1).val)
    omega)

include e0 e1 e2 e3
theorem slot0 (eo : o = ![σ, 0, 0, 0]) :
    v.readAt (Elt F) (Rect.unit (s := S2x4x512x128) o S1x1x512x128.size io).toLoadRect (v.writes (Elt F) f (⟨Rect.unit (s := S2x4x512x128) o3 S1x1x512x128.size i3, w3⟩ :: ⟨Rect.unit (s := S2x4x512x128) o2 S1x1x512x128.size i2, w2⟩ :: ⟨Rect.unit (s := S2x4x512x128) o1 S1x1x512x128.size i1, w1⟩ :: ⟨Rect.unit (s := S2x4x512x128) o0 S1x1x512x128.size i0, w0⟩ :: L)) = w0 := by
  subst e0 e1 e2 e3 eo
  rw [slot_miss _ _ _ _ _ _ (show (0 : ℕ) ≠ 3 by decide), slot_miss _ _ _ _ _ _ (show (0 : ℕ) ≠ 2 by decide), slot_miss _ _ _ _ _ _ (show (0 : ℕ) ≠ 1 by decide)]
  exact slot_hit _ _ _ _ _ _ rfl
theorem slot1 (eo : o = ![σ, 1, 0, 0]) :
    v.readAt (Elt F) (Rect.unit (s := S2x4x512x128) o S1x1x512x128.size io).toLoadRect (v.writes (Elt F) f (⟨Rect.unit (s := S2x4x512x128) o3 S1x1x512x128.size i3, w3⟩ :: ⟨Rect.unit (s := S2x4x512x128) o2 S1x1x512x128.size i2, w2⟩ :: ⟨Rect.unit (s := S2x4x512x128) o1 S1x1x512x128.size i1, w1⟩ :: ⟨Rect.unit (s := S2x4x512x128) o0 S1x1x512x128.size i0, w0⟩ :: L)) = w1 := by
  subst e0 e1 e2 e3 eo
  rw [slot_miss _ _ _ _ _ _ (show (1 : ℕ) ≠ 3 by decide), slot_miss _ _ _ _ _ _ (show (1 : ℕ) ≠ 2 by decide)]
  exact slot_hit _ _ _ _ _ _ rfl
theorem slot2 (eo : o = ![σ, 2, 0, 0]) :
    v.readAt (Elt F) (Rect.unit (s := S2x4x512x128) o S1x1x512x128.size io).toLoadRect (v.writes (Elt F) f (⟨Rect.unit (s := S2x4x512x128) o3 S1x1x512x128.size i3, w3⟩ :: ⟨Rect.unit (s := S2x4x512x128) o2 S1x1x512x128.size i2, w2⟩ :: ⟨Rect.unit (s := S2x4x512x128) o1 S1x1x512x128.size i1, w1⟩ :: ⟨Rect.unit (s := S2x4x512x128) o0 S1x1x512x128.size i0, w0⟩ :: L)) = w2 := by
  subst e0 e1 e2 e3 eo
  rw [slot_miss _ _ _ _ _ _ (show (2 : ℕ) ≠ 3 by decide)]
  exact slot_hit _ _ _ _ _ _ rfl
theorem slot3 (eo : o = ![σ, 3, 0, 0]) :
    v.readAt (Elt F) (Rect.unit (s := S2x4x512x128) o S1x1x512x128.size io).toLoadRect (v.writes (Elt F) f (⟨Rect.unit (s := S2x4x512x128) o3 S1x1x512x128.size i3, w3⟩ :: ⟨Rect.unit (s := S2x4x512x128) o2 S1x1x512x128.size i2, w2⟩ :: ⟨Rect.unit (s := S2x4x512x128) o1 S1x1x512x128.size i1, w1⟩ :: ⟨Rect.unit (s := S2x4x512x128) o0 S1x1x512x128.size i0, w0⟩ :: L)) = w3 := by
  subst e0 e1 e2 e3 eo
  exact slot_hit _ _ _ _ _ _ rfl

end Slot

/-! ## The pieces the runs find, in these functions -/

section Runs

variable (c : Dev nD) (i : grid0.Coords) (arg2 : Memref sig .tc .vmem S1x4x512x128 .bf16) (harg2 : arg2.IsWhole) (arg3 : Memref sig .tc .vmem S1x4x512x128 .bf16) (harg3 : arg3.IsWhole) (arg4 : Memref sig .tc .vmem S1x2x2048x128 .bf16) (harg4 : arg4.IsWhole) (arg5 : Memref sig .tc .vmem S1x2x256x128 .bf16) (harg5 : arg5.IsWhole) (arg6 : Memref sig .tc .vmem S1x2x2048x128 .bf16) (harg6 : arg6.IsWhole) (arg7 : Memref sig .tc .vmem S1x2x256x128 .bf16) (harg7 : arg7.IsWhole) (arg8 : Memref sig .tc .vmem S1x4x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x512 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2x4x512x128 .bf16) (harg16 : arg16.IsWhole)
  (x0 : Vec F S1x4x512x128 .bf16) (x1 : Vec F S1x4x512x128 .bf16) (x2 : Vec F S1x2x2048x128 .bf16) (x3 : Vec F S1x2x256x128 .bf16) (x4 : Vec F S1x2x2048x128 .bf16) (x5 : Vec F S1x2x256x128 .bf16) (x6 : Vec F S1x4x512x128 .bf16) (x7 : Vec F S2048x128 .f32) (x8 : Vec F S2048x128 .f32) (x9 : Vec F S1x128 .f32) (x10 : Vec F S1x128 .f32) (s0 : Vec F S2x2304x128 .bf16) (s1 : Vec F S2x2304x256 .bf16) (s2 : Vec F S2x4x512x128 .bf16)

theorem runB_out (hc0 : ¬k0_cond1 i = 1#1) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).1
    = outL s0 s1 (View.ld s2 (Rect.unit (s := S2x4x512x128) (k0_off1 i) S1x1x512x128.size (k0_off1_inb i))) (View.ld s2 (Rect.unit (s := S2x4x512x128) (k0_off2 i) S1x1x512x128.size (k0_off2_inb i)))
        (View.ld s2 (Rect.unit (s := S2x4x512x128) (k0_off3 i) S1x1x512x128.size (k0_off3_inb i))) (View.ld s2 (Rect.unit (s := S2x4x512x128) (k0_off4 i) S1x1x512x128.size (k0_off4_inb i))) x6 := by
  unfold runB
  sl_unfold_words
  conv_rhs => rw [← harg8.read_unread x6, ← harg14.read_unread s0, ← harg15.read_unread s1, ← harg16.read_unread s2]
  rfl

theorem runB_q (hc0 : ¬k0_cond1 i = 1#1) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).2.1 = nxtL i x1 x7 x8 x9 := by
  unfold runB
  sl_unfold_words
  conv_rhs => rw [← harg3.read_unread x1, ← harg9.read_unread x7, ← harg10.read_unread x8, ← harg11.read_unread x9]
  rfl

theorem runA_k (hc0 : k0_cond1 i = 1#1) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).2.1 = kL x2 x3 x7 x8 x10 := by
  unfold runA
  sl_unfold_words
  conv_rhs => rw [← harg4.read_unread x2, ← harg5.read_unread x3, ← harg9.read_unread x7, ← harg10.read_unread x8, ← harg12.read_unread x10]
  rfl

theorem runA_v (hc0 : k0_cond1 i = 1#1) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).2.2.1 = vL x4 x5 := by
  unfold runA
  sl_unfold_words
  conv_rhs => rw [← harg6.read_unread x4, ← harg7.read_unread x5]
  rfl

theorem runA_q (hc0 : k0_cond1 i = 1#1) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).2.2.2.1 = nxtL i x1 x7 x8 x9 ++ curL x0 x7 x8 x9 := by
  unfold runA
  sl_unfold_words
  conv_rhs => rw [← harg2.read_unread x0, ← harg3.read_unread x1, ← harg9.read_unread x7, ← harg10.read_unread x8, ← harg11.read_unread x9]
  rfl

theorem runA_out (hc0 : k0_cond1 i = 1#1) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).1
    = outL (View.canon (kL x2 x3 x7 x8 x10)) (View.canon (vL x4 x5)) (qh (rows0 x7) (rows0 x8) (hd0 x0) x9) (qh (rows0 x7) (rows0 x8) (hd1 x0) x9)
        (qh (rows0 x7) (rows0 x8) (hd2 x0) x9) (qh (rows0 x7) (rows0 x8) (hd3 x0) x9) x6 := by
  have hi : (i 1).val = 0 := (cond1_iff i).mp hc0
  have h1 : k0_off1 i = ![0, 0, 0, 0] := by rw [off1_eq, hi]
  have h2 : k0_off2 i = ![0, 1, 0, 0] := by rw [off2_eq, hi]
  have h3 : k0_off3 i = ![0, 2, 0, 0] := by rw [off3_eq, hi]
  have h4 : k0_off4 i = ![0, 3, 0, 0] := by rw [off4_eq, hi]
  have e : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2).1
    = outL (View.canon (kL x2 x3 x7 x8 x10)) (View.canon (vL x4 x5))
        (arg16.view.readAt (Elt F) (Rect.unit (s := S2x4x512x128) (k0_off1 i) S1x1x512x128.size (k0_off1_inb i)).toLoadRect (arg16.view.writes (Elt F) (harg16.unread s2) (curL x0 x7 x8 x9)))
        (arg16.view.readAt (Elt F) (Rect.unit (s := S2x4x512x128) (k0_off2 i) S1x1x512x128.size (k0_off2_inb i)).toLoadRect (arg16.view.writes (Elt F) (harg16.unread s2) (curL x0 x7 x8 x9)))
        (arg16.view.readAt (Elt F) (Rect.unit (s := S2x4x512x128) (k0_off3 i) S1x1x512x128.size (k0_off3_inb i)).toLoadRect (arg16.view.writes (Elt F) (harg16.unread s2) (curL x0 x7 x8 x9)))
        (arg16.view.readAt (Elt F) (Rect.unit (s := S2x4x512x128) (k0_off4 i) S1x1x512x128.size (k0_off4_inb i)).toLoadRect (arg16.view.writes (Elt F) (harg16.unread s2) (curL x0 x7 x8 x9))) x6 := by
    unfold runA
    sl_unfold_words
    simp only [View.readCov_eq_canon']
    conv_rhs => rw [← harg2.read_unread x0, ← harg4.read_unread x2, ← harg5.read_unread x3, ← harg6.read_unread x4, ← harg7.read_unread x5, ← harg8.read_unread x6, ← harg9.read_unread x7, ← harg10.read_unread x8, ← harg11.read_unread x9, ← harg12.read_unread x10]
    rfl
  rw [e]
  unfold curL
  rw [slot0 arg16.view _ 0 rfl rfl rfl rfl _ _ _ _ _ _ _ _ _ _ h1, slot1 arg16.view _ 0 rfl rfl rfl rfl _ _ _ _ _ _ _ _ _ _ h2,
    slot2 arg16.view _ 0 rfl rfl rfl rfl _ _ _ _ _ _ _ _ _ _ h3, slot3 arg16.view _ 0 rfl rfl rfl rfl _ _ _ _ _ _ _ _ _ _ h4]

end Runs

end Cert.KernelIdeal.Attn

end
-- ==== Proof.RunSem.lean ====
module

public import proofs.«01_k».proof.Proof.Runs

public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords) (arg2 : Memref sig .tc .vmem S1x4x512x128 .bf16) (harg2 : arg2.IsWhole) (arg3 : Memref sig .tc .vmem S1x4x512x128 .bf16) (harg3 : arg3.IsWhole) (arg4 : Memref sig .tc .vmem S1x2x2048x128 .bf16) (harg4 : arg4.IsWhole) (arg5 : Memref sig .tc .vmem S1x2x256x128 .bf16) (harg5 : arg5.IsWhole) (arg6 : Memref sig .tc .vmem S1x2x2048x128 .bf16) (harg6 : arg6.IsWhole) (arg7 : Memref sig .tc .vmem S1x2x256x128 .bf16) (harg7 : arg7.IsWhole) (arg8 : Memref sig .tc .vmem S1x4x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x512 .bf16) (harg13 : arg13.IsWhole) (arg14 : Memref sig .tc .vmem S2x2304x128 .bf16) (harg14 : arg14.IsWhole) (arg15 : Memref sig .tc .vmem S2x2304x256 .bf16) (harg15 : arg15.IsWhole) (arg16 : Memref sig .tc .vmem S2x4x512x128 .bf16) (harg16 : arg16.IsWhole)
  (x0 : Vec F S1x4x512x128 .bf16) (x1 : Vec F S1x4x512x128 .bf16) (x2 : Vec F S1x2x2048x128 .bf16) (x3 : Vec F S1x2x256x128 .bf16) (x4 : Vec F S1x2x2048x128 .bf16) (x5 : Vec F S1x2x256x128 .bf16) (x6 : Vec F S1x4x512x128 .bf16) (x7 : Vec F S2048x128 .f32) (x8 : Vec F S2048x128 .f32) (x9 : Vec F S1x128 .f32) (x10 : Vec F S1x128 .f32) (s0 : Vec F S2x2304x128 .bf16) (s1 : Vec F S2x2304x256 .bf16) (s2 : Vec F S2x4x512x128 .bf16)

/-- What the body does when it leaves the output pieces `L` and the head-slot pieces `L2` and keeps the keys and values. -/
def SpecB (L : List (View.Piece (Elt F) S1x512x512 .bf16)) (L2 : List (View.Piece (Elt F) S2x4x512x128 .bf16)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s0 ∗ owns (c : Thread nD τ) arg15 fullShare s1 ∗ owns (c : Thread nD τ) arg16 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L)
          ∗ owns (c : Thread nD τ) arg14 fullShare s0 ∗ owns (c : Thread nD τ) arg15 fullShare s1 ∗ (arg16.view.loc (c : Thread nD τ) ↦[arg16.view.set]{fullShare} arg16.view.writes (Elt F) (harg16.unread s2) L2)) -∗ K ⟨⟩))
      ⊢ wp frame (wpE (defs₀ (F := F)) Variants.none c none) E (cc0_attn_a i arg2 harg2 arg3 harg3 arg4 harg4 arg5 harg5 arg6 harg6 arg7 harg7 arg8 harg8 arg9 harg9 arg10 harg10 arg11 harg11 arg12 harg12 arg13 harg13 arg14 harg14 arg15 harg15 arg16 harg16) K

/-- What the body does when it leaves the output pieces `L`, the key pieces `L0`, the value pieces `L1` and the head-slot pieces `L2`. -/
def SpecA (L : List (View.Piece (Elt F) S1x512x512 .bf16)) (L0 : List (View.Piece (Elt F) S2x2304x128 .bf16)) (L1 : List (View.Piece (Elt F) S2x2304x256 .bf16)) (L2 : List (View.Piece (Elt F) S2x4x512x128 .bf16)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s0 ∗ owns (c : Thread nD τ) arg15 fullShare s1 ∗ owns (c : Thread nD τ) arg16 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L)
          ∗ (arg14.view.loc (c : Thread nD τ) ↦[arg14.view.set]{fullShare} arg14.view.writes (Elt F) (harg14.unread s0) L0) ∗ (arg15.view.loc (c : Thread nD τ) ↦[arg15.view.set]{fullShare} arg15.view.writes (Elt F) (harg15.unread s1) L1) ∗ (arg16.view.loc (c : Thread nD τ) ↦[arg16.view.set]{fullShare} arg16.view.writes (Elt F) (harg16.unread s2) L2)) -∗ K ⟨⟩))
      ⊢ wp frame (wpE (defs₀ (F := F)) Variants.none c none) E (cc0_attn_a i arg2 harg2 arg3 harg3 arg4 harg4 arg5 harg5 arg6 harg6 arg7 harg7 arg8 harg8 arg9 harg9 arg10 harg10 arg11 harg11 arg12 harg12 arg13 harg13 arg14 harg14 arg15 harg15 arg16 harg16) K

/-- A body described by some pieces is described by any pieces equal to them. -/
theorem SpecB.of (r : Σ' L : List _, {L2 // SpecB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 L L2}) {A B} (e1 : r.1 = A) (e2 : r.2.1 = B) : SpecB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 A B := by
  subst e1 e2; exact r.2.2

/-- A body described by some pieces is described by any pieces equal to them. -/
theorem SpecA.of (r : Σ' (L : List _) (L0 : List _) (L1 : List _), {L2 // SpecA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 L L0 L1 L2}) {A B C D} (e1 : r.1 = A) (e2 : r.2.1 = B) (e3 : r.2.2.1 = C) (e4 : r.2.2.2.1 = D) :
    SpecA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 A B C D := by
  subst e1 e2 e3 e4; exact r.2.2.2.2

/-- The body at a point that is not the first of its batch row, with the pieces it leaves spelled out. -/
theorem semB (hc0 : ¬k0_cond1 i = 1#1) : SpecB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 (outL s0 s1 (View.ld s2 (Rect.unit (s := S2x4x512x128) (k0_off1 i) S1x1x512x128.size (k0_off1_inb i)))
        (View.ld s2 (Rect.unit (s := S2x4x512x128) (k0_off2 i) S1x1x512x128.size (k0_off2_inb i)))
        (View.ld s2 (Rect.unit (s := S2x4x512x128) (k0_off3 i) S1x1x512x128.size (k0_off3_inb i)))
        (View.ld s2 (Rect.unit (s := S2x4x512x128) (k0_off4 i) S1x1x512x128.size (k0_off4_inb i))) x6) (nxtL i x1 x7 x8 x9) :=
  SpecB.of c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2) (runB_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0) (runB_q c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0)

/-- The body at the first point of a batch row, with the pieces it leaves spelled out. -/
theorem semA (hc0 : k0_cond1 i = 1#1) : SpecA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 (outL (View.canon (kL x2 x3 x7 x8 x10)) (View.canon (vL x4 x5)) (qh (rows0 x7) (rows0 x8) (hd0 x0) x9)
        (qh (rows0 x7) (rows0 x8) (hd1 x0) x9)
        (qh (rows0 x7) (rows0 x8) (hd2 x0) x9)
        (qh (rows0 x7) (rows0 x8) (hd3 x0) x9) x6)
    (kL x2 x3 x7 x8 x10) (vL x4 x5) (nxtL i x1 x7 x8 x9 ++ curL x0 x7 x8 x9) :=
  SpecA.of c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 s0 s1 s2) (runA_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0) (runA_k c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0) (runA_v c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0) (runA_q c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0)

theorem outL_cover (K : Vec F S2x2304x128 .bf16) (V : Vec F S2x2304x256 .bf16) (q0 q1 q2 q3 : Vec F S1x1x512x128 .bf16)
    (x6 : Vec F S1x4x512x128 .bf16) (y : S1x512x512.Idx) : ∃ pc ∈ outL K V q0 q1 q2 q3 x6, y ∈ pc.1.set :=
  View.cover_of_tiledL (outL K V q0 q1 q2 q3 x6) S1x512x128.size (by sl_kernel_rfl) y

theorem kL_cover (x2 : Vec F S1x2x2048x128 .bf16) (x3 : Vec F S1x2x256x128 .bf16) (x7 x8 : Vec F S2048x128 .f32) (x10 : Vec F S1x128 .f32)
    (y : S2x2304x128.Idx) : ∃ pc ∈ kL x2 x3 x7 x8 x10, y ∈ pc.1.set := by
  have h0 : (y 0).val < 2 := (y 0).isLt
  have h1 : (y 1).val < 2304 := (y 1).isLt
  have h2 : (y 2).val < 128 := (y 2).isLt
  unfold kL
  by_cases hk : (y 0).val = 0 <;> by_cases hr : (y 1).val < 256
  · refine ⟨_, .tail _ (.tail _ (.tail _ (.head _))), ?_⟩
    rw [Rect.mem_set_unit]; intro a
    match a with
    | ⟨0, _⟩ => show 0 ≤ (y 0).val ∧ (y 0).val < 0 + 1; omega
    | ⟨1, _⟩ => show 0 ≤ (y 1).val ∧ (y 1).val < 0 + 256; omega
    | ⟨2, _⟩ => show 0 ≤ (y 2).val ∧ (y 2).val < 0 + 128; omega
  · refine ⟨_, .tail _ (.tail _ (.head _)), ?_⟩
    rw [Rect.mem_set_unit]; intro a
    match a with
    | ⟨0, _⟩ => show 0 ≤ (y 0).val ∧ (y 0).val < 0 + 1; omega
    | ⟨1, _⟩ => show 256 ≤ (y 1).val ∧ (y 1).val < 256 + 2048; omega
    | ⟨2, _⟩ => show 0 ≤ (y 2).val ∧ (y 2).val < 0 + 128; omega
  · refine ⟨_, .tail _ (.head _), ?_⟩
    rw [Rect.mem_set_unit]; intro a
    match a with
    | ⟨0, _⟩ => show 1 ≤ (y 0).val ∧ (y 0).val < 1 + 1; omega
    | ⟨1, _⟩ => show 0 ≤ (y 1).val ∧ (y 1).val < 0 + 256; omega
    | ⟨2, _⟩ => show 0 ≤ (y 2).val ∧ (y 2).val < 0 + 128; omega
  · refine ⟨_, .head _, ?_⟩
    rw [Rect.mem_set_unit]; intro a
    match a with
    | ⟨0, _⟩ => show 1 ≤ (y 0).val ∧ (y 0).val < 1 + 1; omega
    | ⟨1, _⟩ => show 256 ≤ (y 1).val ∧ (y 1).val < 256 + 2048; omega
    | ⟨2, _⟩ => show 0 ≤ (y 2).val ∧ (y 2).val < 0 + 128; omega

theorem vL_cover (x4 : Vec F S1x2x2048x128 .bf16) (x5 : Vec F S1x2x256x128 .bf16)
    (y : S2x2304x256.Idx) : ∃ pc ∈ vL x4 x5, y ∈ pc.1.set := by
  have h0 : (y 0).val < 2 := (y 0).isLt
  have h1 : (y 1).val < 2304 := (y 1).isLt
  have h2 : (y 2).val < 256 := (y 2).isLt
  unfold vL
  by_cases hk : (y 0).val = 0 <;> by_cases hr : (y 1).val < 256
  · refine ⟨_, .tail _ (.tail _ (.tail _ (.head _))), ?_⟩
    rw [Rect.mem_set_unit]; intro a
    match a with
    | ⟨0, _⟩ => show 0 ≤ (y 0).val ∧ (y 0).val < 0 + 1; omega
    | ⟨1, _⟩ => show 0 ≤ (y 1).val ∧ (y 1).val < 0 + 256; omega
    | ⟨2, _⟩ => show 0 ≤ (y 2).val ∧ (y 2).val < 0 + 256; omega
  · refine ⟨_, .tail _ (.tail _ (.head _)), ?_⟩
    rw [Rect.mem_set_unit]; intro a
    match a with
    | ⟨0, _⟩ => show 0 ≤ (y 0).val ∧ (y 0).val < 0 + 1; omega
    | ⟨1, _⟩ => show 256 ≤ (y 1).val ∧ (y 1).val < 256 + 2048; omega
    | ⟨2, _⟩ => show 0 ≤ (y 2).val ∧ (y 2).val < 0 + 256; omega
  · refine ⟨_, .tail _ (.head _), ?_⟩
    rw [Rect.mem_set_unit]; intro a
    match a with
    | ⟨0, _⟩ => show 1 ≤ (y 0).val ∧ (y 0).val < 1 + 1; omega
    | ⟨1, _⟩ => show 0 ≤ (y 1).val ∧ (y 1).val < 0 + 256; omega
    | ⟨2, _⟩ => show 0 ≤ (y 2).val ∧ (y 2).val < 0 + 256; omega
  · refine ⟨_, .head _, ?_⟩
    rw [Rect.mem_set_unit]; intro a
    match a with
    | ⟨0, _⟩ => show 1 ≤ (y 0).val ∧ (y 0).val < 1 + 1; omega
    | ⟨1, _⟩ => show 256 ≤ (y 1).val ∧ (y 1).val < 256 + 2048; omega
    | ⟨2, _⟩ => show 0 ≤ (y 2).val ∧ (y 2).val < 0 + 256; omega

/-- The body at a point that is not the first of its batch row, with what it leaves as whole contents. -/
theorem bodyB (hc0 : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s0 ∗ owns (c : Thread nD τ) arg15 fullShare s1 ∗ owns (c : Thread nD τ) arg16 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (View.canon (outL s0 s1 (View.ld s2 (Rect.unit (s := S2x4x512x128) (k0_off1 i) S1x1x512x128.size (k0_off1_inb i)))
        (View.ld s2 (Rect.unit (s := S2x4x512x128) (k0_off2 i) S1x1x512x128.size (k0_off2_inb i)))
        (View.ld s2 (Rect.unit (s := S2x4x512x128) (k0_off3 i) S1x1x512x128.size (k0_off3_inb i)))
        (View.ld s2 (Rect.unit (s := S2x4x512x128) (k0_off4 i) S1x1x512x128.size (k0_off4_inb i))) x6))
          ∗ owns (c : Thread nD τ) arg14 fullShare s0 ∗ owns (c : Thread nD τ) arg15 fullShare s1 ∗ owns (c : Thread nD τ) arg16 fullShare (arg16.view.read (Elt F) (arg16.view.writes (Elt F) (harg16.unread s2) (nxtL i x1 x7 x8 x9)))) -∗ K ⟨⟩))
      ⊢ wp frame (wpE (defs₀ (F := F)) Variants.none c none) E (cc0_attn_a i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine BIBase.Entails.trans ?_ (semB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0 E K)
  iintro ⟨H0, H1, H2, H3, H4, H5, H6, H7, H8, H9, H10, H11, S0, S1, S2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  iintro ⟨H0, H1, H2, H3, H4, H5, H6, H7, H8, H9, H10, ⟨%e11, H11⟩, S0, S1, S2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon arg13.view _ _ (outL_cover _ _ _ _ _ _ _)
  isplitl [S0]; · iexact S0
  isplitl [S1]; · iexact S1
  unfold owns; iexists _; isplitr
  swap; · iexact S2
  ipureintro; rfl

/-- The body at the first point of a batch row, with what it leaves as whole contents. -/
theorem bodyA (hc0 : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare s0 ∗ owns (c : Thread nD τ) arg15 fullShare s1 ∗ owns (c : Thread nD τ) arg16 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (View.canon (outL (View.canon (kL x2 x3 x7 x8 x10)) (View.canon (vL x4 x5)) (qh (rows0 x7) (rows0 x8) (hd0 x0) x9)
        (qh (rows0 x7) (rows0 x8) (hd1 x0) x9)
        (qh (rows0 x7) (rows0 x8) (hd2 x0) x9)
        (qh (rows0 x7) (rows0 x8) (hd3 x0) x9) x6))
          ∗ owns (c : Thread nD τ) arg14 fullShare (View.canon (kL x2 x3 x7 x8 x10)) ∗ owns (c : Thread nD τ) arg15 fullShare (View.canon (vL x4 x5)) ∗ owns (c : Thread nD τ) arg16 fullShare (arg16.view.read (Elt F) (arg16.view.writes (Elt F) (harg16.unread s2) (nxtL i x1 x7 x8 x9 ++ curL x0 x7 x8 x9)))) -∗ K ⟨⟩))
      ⊢ wp frame (wpE (defs₀ (F := F)) Variants.none c none) E (cc0_attn_a i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine BIBase.Entails.trans ?_ (semA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 s0 s1 s2 hc0 E K)
  iintro ⟨H0, H1, H2, H3, H4, H5, H6, H7, H8, H9, H10, H11, S0, S1, S2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  iintro ⟨H0, H1, H2, H3, H4, H5, H6, H7, H8, H9, H10, ⟨%e11, H11⟩, S0, S1, S2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_eq_canon arg13.view _ _ (outL_cover _ _ _ _ _ _ _)
  isplitl [S0]
  · unfold owns; iexists _; isplitr
    swap; · iexact S0
    ipureintro; exact View.read_writes_eq_canon arg14.view _ _ (kL_cover _ _ _ _ _)
  isplitl [S1]
  · unfold owns; iexists _; isplitr
    swap; · iexact S1
    ipureintro; exact View.read_writes_eq_canon arg15.view _ _ (vL_cover _ _)
  unfold owns; iexists _; isplitr
  swap; · iexact S2
  ipureintro; rfl

end Cert.KernelIdeal.Attn

end
-- ==== Proof.AttnFrame.lean ====
module

public import proofs.«01_k».proof.Proof.RunSem

public import Idealize.ShloMosaic.Lib.Claim
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs and the scratch -/

abbrev ms0 (t : Fin cfg0.N) : Memref sig .tc .vmem S1x4x512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2x2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x256x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4x512x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512x512 .bf16 := win0_11.stage (cfg0.slots t 11)
abbrev hs11 (t : Fin cfg0.N) : (ms11 t).IsWhole := hstage0_11 ((cfg0.slots t 11).cast nbuf0_11)
abbrev sc0 : Memref sig .tc .vmem S2x2304x128 .bf16 := Memref.whole cc0_scratch0
abbrev sc1 : Memref sig .tc .vmem S2x2304x256 .bf16 := Memref.whole cc0_scratch1
abbrev sc2 : Memref sig .tc .vmem S2x4x512x128 .bf16 := Memref.whole cc0_scratch2

/-- The launch's invariant with the scratch as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The branch that prepares the keys and values runs at the first point of each batch row. -/
theorem hcond (t : Fin cfg0.N) : k0_cond1 (grid0.coords t) = 1#1 ↔ t.val % 4 = 0 := by
  have e1 : (grid0.coords t 1).val = t.val / 1 % 4 := Pipeline.Grid.coords_val t 1 (by decide) rfl
  rw [cond1_iff, e1, Nat.div_one]

theorem coord1 (t : Fin cfg0.N) : (grid0.coords t 1).val = t.val % 4 := by
  have e1 : (grid0.coords t 1).val = t.val / 1 % 4 := Pipeline.Grid.coords_val t 1 (by decide) rfl
  rw [e1, Nat.div_one]

/-! ## What a point reads and leaves -/

/-- The first point of `t`'s batch row. -/
def first (t : Fin cfg0.N) : Fin cfg0.N := ⟨t.val - t.val % 4, lt_of_le_of_lt (Nat.sub_le _ _) t.isLt⟩
/-- The point before. -/
def prev (t : Fin cfg0.N) : Fin cfg0.N := ⟨t.val - 1, lt_of_le_of_lt (Nat.sub_le _ _) t.isLt⟩

/-- The prepared keys of `t`'s batch row. -/
def KP (c : Dev nD) (t : Fin cfg0.N) : Vec F S2x2304x128 .bf16 :=
  View.canon (kL (iblk m c 2 (first t)) (iblk m c 3 (first t)) (iblk m c 7 (first t)) (iblk m c 8 (first t)) (iblk m c 10 (first t)))
/-- The prepared values of `t`'s batch row. -/
def VP (c : Dev nD) (t : Fin cfg0.N) : Vec F S2x2304x256 .bf16 :=
  View.canon (vL (iblk m c 4 (first t)) (iblk m c 5 (first t)))
/-- Head 0 prepared at `t` for the point after it. -/
def QN0 (c : Dev nD) (t : Fin cfg0.N) : Vec F S1x1x512x128 .bf16 :=
  qh (rowsN (grid0.coords t) (iblk m c 7 t)) (rowsN (grid0.coords t) (iblk m c 8 t)) (hd0 (iblk m c 1 t)) (iblk m c 9 t)
/-- Head 0 as `t` uses it: prepared there at the first point of a batch row, at the point before otherwise. -/
def Q0 (c : Dev nD) (t : Fin cfg0.N) : Vec F S1x1x512x128 .bf16 :=
  if t.val % 4 = 0 then qh (rows0 (iblk m c 7 t)) (rows0 (iblk m c 8 t)) (hd0 (iblk m c 0 t)) (iblk m c 9 t) else QN0 m c (prev t)
/-- Head 1 prepared at `t` for the point after it. -/
def QN1 (c : Dev nD) (t : Fin cfg0.N) : Vec F S1x1x512x128 .bf16 :=
  qh (rowsN (grid0.coords t) (iblk m c 7 t)) (rowsN (grid0.coords t) (iblk m c 8 t)) (hd1 (iblk m c 1 t)) (iblk m c 9 t)
/-- Head 1 as `t` uses it: prepared there at the first point of a batch row, at the point before otherwise. -/
def Q1 (c : Dev nD) (t : Fin cfg0.N) : Vec F S1x1x512x128 .bf16 :=
  if t.val % 4 = 0 then qh (rows0 (iblk m c 7 t)) (rows0 (iblk m c 8 t)) (hd1 (iblk m c 0 t)) (iblk m c 9 t) else QN1 m c (prev t)
/-- Head 2 prepared at `t` for the point after it. -/
def QN2 (c : Dev nD) (t : Fin cfg0.N) : Vec F S1x1x512x128 .bf16 :=
  qh (rowsN (grid0.coords t) (iblk m c 7 t)) (rowsN (grid0.coords t) (iblk m c 8 t)) (hd2 (iblk m c 1 t)) (iblk m c 9 t)
/-- Head 2 as `t` uses it: prepared there at the first point of a batch row, at the point before otherwise. -/
def Q2 (c : Dev nD) (t : Fin cfg0.N) : Vec F S1x1x512x128 .bf16 :=
  if t.val % 4 = 0 then qh (rows0 (iblk m c 7 t)) (rows0 (iblk m c 8 t)) (hd2 (iblk m c 0 t)) (iblk m c 9 t) else QN2 m c (prev t)
/-- Head 3 prepared at `t` for the point after it. -/
def QN3 (c : Dev nD) (t : Fin cfg0.N) : Vec F S1x1x512x128 .bf16 :=
  qh (rowsN (grid0.coords t) (iblk m c 7 t)) (rowsN (grid0.coords t) (iblk m c 8 t)) (hd3 (iblk m c 1 t)) (iblk m c 9 t)
/-- Head 3 as `t` uses it: prepared there at the first point of a batch row, at the point before otherwise. -/
def Q3 (c : Dev nD) (t : Fin cfg0.N) : Vec F S1x1x512x128 .bf16 :=
  if t.val % 4 = 0 then qh (rows0 (iblk m c 7 t)) (rows0 (iblk m c 8 t)) (hd3 (iblk m c 0 t)) (iblk m c 9 t) else QN3 m c (prev t)
/-- What the point leaves in its output block. -/
def OUT (c : Dev nD) (t : Fin cfg0.N) : Vec F S1x512x512 .bf16 :=
  View.canon (outL (KP m c t) (VP m c t) (Q0 m c t) (Q1 m c t) (Q2 m c t) (Q3 m c t) (iblk m c 6 t))

/-! ## The invariant between points -/

/-- After point `t` the scratch holds the batch row's prepared keys and values and, at the other slot, the next block's
    prepared heads. -/
structure Inv (c : Dev nD) (t : Fin cfg0.N) (s0 : Vec F S2x2304x128 .bf16) (s1 : Vec F S2x2304x256 .bf16) (s2 : Vec F S2x4x512x128 .bf16) : Prop where
  k : s0 = KP m c t
  v : s1 = VP m c t
  q0 : ∀ (o : Fin 4 → ℕ) (io : ∀ a, o a + S1x1x512x128.size a ≤ S2x4x512x128.size a), o = ![1 - t.val % 4 % 2, 0, 0, 0] →
    View.ld s2 (Rect.unit (s := S2x4x512x128) o S1x1x512x128.size io) = QN0 m c t
  q1 : ∀ (o : Fin 4 → ℕ) (io : ∀ a, o a + S1x1x512x128.size a ≤ S2x4x512x128.size a), o = ![1 - t.val % 4 % 2, 1, 0, 0] →
    View.ld s2 (Rect.unit (s := S2x4x512x128) o S1x1x512x128.size io) = QN1 m c t
  q2 : ∀ (o : Fin 4 → ℕ) (io : ∀ a, o a + S1x1x512x128.size a ≤ S2x4x512x128.size a), o = ![1 - t.val % 4 % 2, 2, 0, 0] →
    View.ld s2 (Rect.unit (s := S2x4x512x128) o S1x1x512x128.size io) = QN2 m c t
  q3 : ∀ (o : Fin 4 → ℕ) (io : ∀ a, o a + S1x1x512x128.size a ≤ S2x4x512x128.size a), o = ![1 - t.val % 4 % 2, 3, 0, 0] →
    View.ld s2 (Rect.unit (s := S2x4x512x128) o S1x1x512x128.size io) = QN3 m c t

/-- The invariant before position `n`: the launch's before the first point, afterwards some scratch contents as the point
    before left them. -/
def PhiS (c : Dev nD) : (n : ℕ) → n ≤ cfg0.N → sProp 𝕄
  | 0, _ => Pipeline.ΦA spec0 c
  | n + 1, hn => iprop(∃ s0 s1 s2, ⌜Inv m c ⟨n, hn⟩ s0 s1 s2⌝ ∗ owns (c : Thread nD τ) sc0 fullShare s0 ∗ owns (c : Thread nD τ) sc1 fullShare s1 ∗ owns (c : Thread nD τ) sc2 fullShare s2 ∗ (∃ r, prngReg c r))

/-- The scratch at some contents and the generator at some state. -/
def Any (c : Dev nD) : sProp 𝕄 :=
  iprop(∃ s0 s1 s2, owns (c : Thread nD τ) sc0 fullShare s0 ∗ owns (c : Thread nD τ) sc1 fullShare s1 ∗ owns (c : Thread nD τ) sc2 fullShare s2 ∗ (∃ r, prngReg c r))

theorem PhiS_any (c : Dev nD) (n : ℕ) (hn : n ≤ cfg0.N) : PhiS m c n hn ⊢ Any c := by
  cases n with
  | zero =>
    show Pipeline.ΦA spec0 c ⊢ _
    rw [PhiA_eq]; unfold Any
    iintro ⟨⟨⟨%d0, H0⟩, ⟨%d1, H1⟩, ⟨%d2, H2⟩⟩, Hg⟩
    iexists d0; iexists d1; iexists d2
    isplitl [H0]; · iexact H0
    isplitl [H1]; · iexact H1
    isplitl [H2]; · iexact H2
    iexact Hg
  | succ n =>
    unfold PhiS Any
    iintro ⟨%s0, %s1, %s2, -, H0, H1, H2, Hg⟩
    iexists s0; iexists s1; iexists s2
    isplitl [H0]; · iexact H0
    isplitl [H1]; · iexact H1
    isplitl [H2]; · iexact H2
    iexact Hg

theorem any_out (c : Dev nD) : (Any c : sProp 𝕄) ⊢ Pipeline.ΦA spec0 c := by
  rw [PhiA_eq]; unfold Any
  iintro ⟨%s0, %s1, %s2, H0, H1, H2, Hg⟩
  isplitr [Hg]
  · isplitl [H0]; · iexists _; iexact H0
    isplitl [H1]; · iexists _; iexact H1
    iexists _; iexact H2
  iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => OUT m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = OUT m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

/-- The contents the runs leave at the first point of a batch row satisfy the invariant. -/
theorem invA (c : Dev nD) (t : Fin cfg0.N) (h0 : t.val % 4 = 0) {g0 g1 g2}
    (e0 : g0 = View.canon (kL (iblk m c 2 t) (iblk m c 3 t) (iblk m c 7 t) (iblk m c 8 t) (iblk m c 10 t)))
    (e1 : g1 = View.canon (vL (iblk m c 4 t) (iblk m c 5 t)))
    (f : (sc2.view).ty.Contents (Elt F)) (L : List (View.Piece (Elt F) S2x4x512x128 .bf16))
    (e2 : g2 = sc2.view.read (Elt F) (sc2.view.writes (Elt F) f (nxtL (grid0.coords t) (iblk m c 1 t) (iblk m c 7 t) (iblk m c 8 t) (iblk m c 9 t) ++ L))) :
    Inv m c t g0 g1 g2 := by
  have hf : first t = t := Fin.ext (by show t.val - t.val % 4 = t.val; omega)
  subst e0 e1 e2
  have c1 := coord1 t
  refine ⟨by unfold KP; rw [hf], by unfold VP; rw [hf], ?_, ?_, ?_, ?_⟩
  all_goals intro o io ho
  · exact slot0 sc2.view f (1 - t.val % 4 % 2) ((off6_eq _).trans (by rw [c1])) ((off7_eq _).trans (by rw [c1])) ((off8_eq _).trans (by rw [c1])) ((off9_eq _).trans (by rw [c1])) _ _ _ _ io _ _ _ _ L ho
  · exact slot1 sc2.view f (1 - t.val % 4 % 2) ((off6_eq _).trans (by rw [c1])) ((off7_eq _).trans (by rw [c1])) ((off8_eq _).trans (by rw [c1])) ((off9_eq _).trans (by rw [c1])) _ _ _ _ io _ _ _ _ L ho
  · exact slot2 sc2.view f (1 - t.val % 4 % 2) ((off6_eq _).trans (by rw [c1])) ((off7_eq _).trans (by rw [c1])) ((off8_eq _).trans (by rw [c1])) ((off9_eq _).trans (by rw [c1])) _ _ _ _ io _ _ _ _ L ho
  · exact slot3 sc2.view f (1 - t.val % 4 % 2) ((off6_eq _).trans (by rw [c1])) ((off7_eq _).trans (by rw [c1])) ((off8_eq _).trans (by rw [c1])) ((off9_eq _).trans (by rw [c1])) _ _ _ _ io _ _ _ _ L ho

/-- The contents the runs leave at a later point of a batch row satisfy the invariant. -/
theorem invB (c : Dev nD) (t : Fin cfg0.N) (h0 : ¬t.val % 4 = 0) {s0 s1 s2 g2} (I : Inv m c (prev t) s0 s1 s2)
    (f : (sc2.view).ty.Contents (Elt F))
    (e2 : g2 = sc2.view.read (Elt F) (sc2.view.writes (Elt F) f (nxtL (grid0.coords t) (iblk m c 1 t) (iblk m c 7 t) (iblk m c 8 t) (iblk m c 9 t)))) :
    Inv m c t s0 s1 g2 := by
  have hf : first (prev t) = first t := Fin.ext (by show (t.val - 1) - (t.val - 1) % 4 = t.val - t.val % 4; omega)
  subst e2
  have c1 := coord1 t
  refine ⟨I.k.trans (by unfold KP; rw [hf]), I.v.trans (by unfold VP; rw [hf]), ?_, ?_, ?_, ?_⟩
  all_goals intro o io ho
  · exact slot0 sc2.view f (1 - t.val % 4 % 2) ((off6_eq _).trans (by rw [c1])) ((off7_eq _).trans (by rw [c1])) ((off8_eq _).trans (by rw [c1])) ((off9_eq _).trans (by rw [c1])) _ _ _ _ io _ _ _ _ [] ho
  · exact slot1 sc2.view f (1 - t.val % 4 % 2) ((off6_eq _).trans (by rw [c1])) ((off7_eq _).trans (by rw [c1])) ((off8_eq _).trans (by rw [c1])) ((off9_eq _).trans (by rw [c1])) _ _ _ _ io _ _ _ _ [] ho
  · exact slot2 sc2.view f (1 - t.val % 4 % 2) ((off6_eq _).trans (by rw [c1])) ((off7_eq _).trans (by rw [c1])) ((off8_eq _).trans (by rw [c1])) ((off9_eq _).trans (by rw [c1])) _ _ _ _ io _ _ _ _ [] ho
  · exact slot3 sc2.view f (1 - t.val % 4 % 2) ((off6_eq _).trans (by rw [c1])) ((off7_eq _).trans (by rw [c1])) ((off8_eq _).trans (by rw [c1])) ((off9_eq _).trans (by rw [c1])) _ _ _ _ io _ _ _ _ [] ho

/-- At the first point of a batch row the run's output is `OUT`. -/
theorem outA_eq (c : Dev nD) (t : Fin cfg0.N) (h0 : t.val % 4 = 0) :
    View.canon (outL (View.canon (kL (iblk m c 2 t) (iblk m c 3 t) (iblk m c 7 t) (iblk m c 8 t) (iblk m c 10 t))) (View.canon (vL (iblk m c 4 t) (iblk m c 5 t)))
      (qh (rows0 (iblk m c 7 t)) (rows0 (iblk m c 8 t)) (hd0 (iblk m c 0 t)) (iblk m c 9 t)) (qh (rows0 (iblk m c 7 t)) (rows0 (iblk m c 8 t)) (hd1 (iblk m c 0 t)) (iblk m c 9 t))
      (qh (rows0 (iblk m c 7 t)) (rows0 (iblk m c 8 t)) (hd2 (iblk m c 0 t)) (iblk m c 9 t)) (qh (rows0 (iblk m c 7 t)) (rows0 (iblk m c 8 t)) (hd3 (iblk m c 0 t)) (iblk m c 9 t))
      (iblk m c 6 t)) = OUT m c t := by
  have hf : first t = t := Fin.ext (by show t.val - t.val % 4 = t.val; omega)
  unfold OUT KP VP Q0 Q1 Q2 Q3
  rw [hf]; simp only [if_pos h0]

/-- At a later point the run's output is `OUT`, by the invariant. -/
theorem outB_eq (c : Dev nD) (t : Fin cfg0.N) (h0 : ¬t.val % 4 = 0) {s0 s1 s2} (I : Inv m c (prev t) s0 s1 s2) :
    View.canon (outL s0 s1 (View.ld s2 (Rect.unit (s := S2x4x512x128) (k0_off1 (grid0.coords t)) S1x1x512x128.size (k0_off1_inb _)))
      (View.ld s2 (Rect.unit (s := S2x4x512x128) (k0_off2 (grid0.coords t)) S1x1x512x128.size (k0_off2_inb _)))
      (View.ld s2 (Rect.unit (s := S2x4x512x128) (k0_off3 (grid0.coords t)) S1x1x512x128.size (k0_off3_inb _)))
      (View.ld s2 (Rect.unit (s := S2x4x512x128) (k0_off4 (grid0.coords t)) S1x1x512x128.size (k0_off4_inb _))) (iblk m c 6 t)) = OUT m c t := by
  have hf : first (prev t) = first t := Fin.ext (by show (t.val - 1) - (t.val - 1) % 4 = t.val - t.val % 4; omega)
  have c1 := coord1 t
  have hp : 1 - (prev t).val % 4 % 2 = t.val % 4 % 2 := by show 1 - (t.val - 1) % 4 % 2 = t.val % 4 % 2; omega
  rw [I.q0 _ _ ((off1_eq _).trans (by rw [c1, hp])), I.q1 _ _ ((off2_eq _).trans (by rw [c1, hp])),
    I.q2 _ _ ((off3_eq _).trans (by rw [c1, hp])), I.q3 _ _ ((off4_eq _).trans (by rw [c1, hp])), I.k, I.v]
  unfold OUT KP VP Q0 Q1 Q2 Q3
  rw [hf]; simp only [if_neg h0]

/-- The body at the first point of a batch row. -/
theorem sound_bodyA (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10, after11]
  rw [show (dats m 0 c).Φ t.succ = PhiS m c (t.val + 1) t.isLt from rfl, PhiS_castSucc m c t]
  refine (sep_mono_left (PhiS_any m c _ _)).trans ?_
  unfold Any
  iintro ⟨⟨%s0, %s1, %s2, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 s2 ((hcond t).mpr h0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S0]; · iexact S0
  isplitl [S1]; · iexact S1
  isplitl [S2]; · iexact S2
  iintro ⟨H0, H1, H2, H3, H4, H5, H6, H7, H8, H9, H10, H11, S0, S1, S2⟩
  isplitl [S0 S1 S2 Hg]
  · unfold PhiS
    iexists (View.canon (kL (iblk m c 2 t) (iblk m c 3 t) (iblk m c 7 t) (iblk m c 8 t) (iblk m c 10 t)))
    iexists (View.canon (vL (iblk m c 4 t) (iblk m c 5 t)))
    iexists (sc2.view.read (Elt F) (sc2.view.writes (Elt F) ((Memref.isWhole_whole cc0_scratch2).unread s2) (nxtL (grid0.coords t) (iblk m c 1 t) (iblk m c 7 t) (iblk m c 8 t) (iblk m c 9 t) ++ curL (iblk m c 0 t) (iblk m c 7 t) (iblk m c 8 t) (iblk m c 9 t))))
    isplitr
    · ipureintro
      exact invA m c t h0 rfl rfl _ _ rfl
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [← outA_eq m c t h0]; iexact H11

/-- The body at a later point of a batch row. -/
theorem sound_bodyB (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10, after11]
  rw [show (dats m 0 c).Φ t.succ = PhiS m c (t.val + 1) t.isLt from rfl, PhiS_castSucc m c t]
  have hz : t.val = (prev t).val + 1 := by show t.val = t.val - 1 + 1; omega
  rw [show PhiS m c t.val (Nat.le_of_lt t.isLt) = PhiS m c ((prev t).val + 1) (prev t).isLt from by congr 1]
  unfold PhiS
  iintro ⟨⟨%s0, %s1, %s2, %I, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 s2 (fun h => h0 ((hcond t).mp h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S0]; · iexact S0
  isplitl [S1]; · iexact S1
  isplitl [S2]; · iexact S2
  iintro ⟨H0, H1, H2, H3, H4, H5, H6, H7, H8, H9, H10, H11, S0, S1, S2⟩
  isplitl [S0 S1 S2 Hg]
  · iexists s0
    iexists s1
    iexists (sc2.view.read (Elt F) (sc2.view.writes (Elt F) ((Memref.isWhole_whole cc0_scratch2).unread s2) (nxtL (grid0.coords t) (iblk m c 1 t) (iblk m c 7 t) (iblk m c 8 t) (iblk m c 9 t))))
    isplitr
    · ipureintro
      exact invB m c t h0 I _ rfl
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [← outB_eq m c t h0 I]; iexact H11

/-- The body at any point: from the inputs' blocks and the invariant to the same blocks, the output block at `OUT` and the
    invariant after the point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_bodyA m c t h0
  · exact sound_bodyB m c t h0

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c :=
  (PhiS_any m c cfg0.N (Nat.le_refl _)).trans (any_out c)

/-! ## The run and the frame -/

set_option backward.isDefEq.respectTransparency.types false in
/-- The launch: every execution ends with the pipeline's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnMath.lean ====
/-
  The attention's arithmetic over the extended reals, apart from any program.

  A head's normalised row is real whatever the row holds (`normed_real`); with finite gains and rotary tables so are the
  prepared queries and keys (`nrm_real`, `turn_real`). The kernel scales the queries by 1/√128 · 1/ln 2 and takes powers
  of two, in two spans of keys, and divides by the sum of weights at the end; the reference scales the scores by 1/√128,
  takes exponentials and divides each weight. Both are one weighted mean (`attend`).
-/
module

public import Idealize.ShloMosaic.PureOps.Ideal.Laws
public import Idealize.ShloMosaic.PureOps.Ideal
public import Mathlib.Analysis.SpecialFunctions.Pow.Real

@[expose] public section

set_option maxRecDepth 16384

noncomputable section

namespace Cert.Attn

open Idealize.ShloMosaic

/-- The reciprocal root mean square of a row of 128, with the programs' two constants. -/
def rnorm (x : Fin 128 → EReal) : EReal :=
  Ideal.rsqrt (Ideal.div (∑ k, x k * x k) (Ideal.ofBits .f32 1124073472#32) + Ideal.ofBits .f32 897988541#32)

/-- A row normalised and scaled by the gains. -/
def nrm (x g : Fin 128 → EReal) (d : Fin 128) : EReal := x d * rnorm x * g d

/-- The rotary turn of a row: its halves as the two coordinates. -/
def turn (y : Fin 128 → EReal) (c s : Fin 64 → EReal) (d : Fin 128) : EReal :=
  if h : d.val < 64 then y d * c ⟨d.val, h⟩ - y ⟨64 + d.val, by omega⟩ * s ⟨d.val, h⟩
  else y ⟨d.val - 64, by omega⟩ * s ⟨d.val - 64, by omega⟩ + y ⟨64 + (d.val - 64), by omega⟩ * c ⟨d.val - 64, by omega⟩

/-- The same turn as the kernel spells it: the row times a doubled table plus the row moved by half times a signed one. -/
theorem turn_eq (y : Fin 128 → EReal) (c s : Fin 64 → EReal) (ct st : Fin 128 → EReal) (d e : Fin 128)
    (he : e.val = (d.val + 64) % 128)
    (hc : ∀ d, ct d = if h : d.val < 64 then c ⟨d.val, h⟩ else c ⟨d.val - 64, by omega⟩)
    (hs : ∀ d, st d = if h : d.val < 64 then -s ⟨d.val, h⟩ else s ⟨d.val - 64, by omega⟩) :
    y d * ct d + y e * st d = turn y c s d := by
  rw [hc, hs]
  unfold turn
  by_cases h : d.val < 64
  · rw [dif_pos h, dif_pos h, dif_pos h, sub_eq_add_neg, mul_neg]
    have : e = ⟨64 + d.val, by omega⟩ := Fin.ext (by dsimp only; omega)
    rw [this]
  · rw [dif_neg h, dif_neg h, dif_neg h, add_comm]
    have h1 : e = ⟨d.val - 64, by omega⟩ := Fin.ext (by dsimp only; omega)
    have h2 : (⟨64 + (d.val - 64), by omega⟩ : Fin 128) = d := Fin.ext (by dsimp only; omega)
    rw [h1, h2]

/-- An extended real that is a real number. -/
def Real' (x : EReal) : Prop := ∃ r : ℝ, x = r

theorem Real'.mul {x y : EReal} : Real' x → Real' y → Real' (x * y)
  | ⟨a, ha⟩, ⟨b, hb⟩ => ⟨a * b, by rw [ha, hb, EReal.coe_mul]⟩
theorem Real'.add {x y : EReal} : Real' x → Real' y → Real' (x + y)
  | ⟨a, ha⟩, ⟨b, hb⟩ => ⟨a + b, by rw [ha, hb, EReal.coe_add]⟩
theorem Real'.sub {x y : EReal} : Real' x → Real' y → Real' (x - y)
  | ⟨a, ha⟩, ⟨b, hb⟩ => ⟨a - b, by rw [ha, hb, EReal.coe_sub]⟩

theorem c128 : Ideal.ofBits .f32 1124073472#32 = ((128 : ℝ) : EReal) := by
  simp [Ideal.ofBits, Ideal.ieee]
  rw [← EReal.coe_mul]
  norm_num

theorem ceps : ∃ r : ℝ, 0 < r ∧ Ideal.ofBits .f32 897988541#32 = (r : EReal) := by
  simp [Ideal.ofBits, Ideal.ieee]
  exact ⟨8796093 * (2 ^ 43)⁻¹, by positivity, by rw [EReal.coe_mul]⟩

theorem bot16 : Ideal.ofBits .bf16 65408#16 = ⊥ := by
  simp [Ideal.ofBits, Ideal.ieee]

theorem bot32 : Ideal.ofBits .f32 4286578688#32 = ⊥ := by
  simp [Ideal.ofBits, Ideal.ieee]

theorem sq_nonneg' (x : EReal) : 0 ≤ x * x := by
  induction x with
  | bot => simp
  | top => simp
  | coe r => rw [← EReal.coe_mul]; exact_mod_cast mul_self_nonneg r

theorem normed_real (x : Fin 128 → EReal) (d : Fin 128) : Real' (x d * rnorm x) := by
  obtain ⟨ε, hε, eε⟩ := ceps
  unfold rnorm
  rw [c128, eε, Ideal.div_coe (by norm_num)]
  have hs : 0 ≤ ∑ k, x k * x k := Finset.sum_nonneg fun k _ => sq_nonneg' _
  have hd : x d * x d ≤ ∑ k, x k * x k :=
    Finset.single_le_sum (f := fun k => x k * x k) (fun k _ => sq_nonneg' _) (Finset.mem_univ d)
  generalize (∑ k, x k * x k) = S at hs hd
  induction S with
  | bot => simp at hs
  | top =>
    rw [EReal.top_mul_coe_of_pos (by norm_num), EReal.top_add_coe, Ideal.rsqrt_top, mul_zero]
    exact ⟨0, rfl⟩
  | coe s =>
    have hs' : 0 ≤ s := by exact_mod_cast hs
    rw [← EReal.coe_mul, ← EReal.coe_add, Ideal.rsqrt_coe]
    have hp : 0 < s * (1 / 128) + ε := by positivity
    rw [if_neg (not_lt.2 hp.le), if_neg hp.ne']
    refine Real'.mul ?_ ⟨_, rfl⟩
    generalize x d = y at hd
    induction y with
    | bot => simp at hd
    | top => simp at hd
    | coe r => exact ⟨r, rfl⟩

theorem nrm_real (x g : Fin 128 → EReal) (hg : ∀ d, Real' (g d)) (d : Fin 128) : Real' (nrm x g d) :=
  (normed_real x d).mul (hg d)

theorem turn_real (y : Fin 128 → EReal) (c s : Fin 64 → EReal) (hy : ∀ d, Real' (y d)) (hc : ∀ d, Real' (c d))
    (hs : ∀ d, Real' (s d)) (d : Fin 128) : Real' (turn y c s d) := by
  unfold turn
  split
  · exact ((hy _).mul (hc _)).sub ((hy _).mul (hs _))
  · exact ((hy _).mul (hs _)).add ((hy _).mul (hc _))

/-! ## The weighted mean -/

/-- The scale the kernel gives its queries. -/
def kap : EReal := (((Real.sqrt 128)⁻¹ * (Real.log 2)⁻¹ : ℝ) : EReal)

/-- Positions of the kernel's two spans of keys. -/
def lo (x : Fin 1280) : Fin 2304 := ⟨x.val, by omega⟩
def hi (x : Fin 1024) : Fin 2304 := ⟨1280 + x.val, by omega⟩

/-- The kernel's score of key `j` for a scaled query. -/
def scK (q : Fin 128 → EReal) (k : Fin 2304 → Fin 128 → EReal) (j : Fin 2304) : EReal := ∑ d, q d * k j d
/-- The largest score, span by span. -/
def topK (s : Fin 2304 → EReal) : EReal :=
  max (Finset.fold max (Ideal.ofBits .bf16 65408#16) (fun x => s (lo x)) Finset.univ)
    (Finset.fold max (Ideal.ofBits .bf16 65408#16) (fun x => s (hi x)) Finset.univ)
/-- The unnormalised weighted sum of a column of values, span by span. -/
def accK (s : Fin 2304 → EReal) (v : Fin 2304 → EReal) : EReal :=
  (∑ x, Ideal.exp2 (s (lo x) - topK s) * v (lo x)) + ∑ x, Ideal.exp2 (s (hi x) - topK s) * v (hi x)

/-- The reference's score of key `j`. -/
def scR (q : Fin 128 → EReal) (k : Fin 2304 → Fin 128 → EReal) (j : Fin 2304) : EReal :=
  (∑ d, k j d * q d) * Ideal.rsqrt (Ideal.ofBits .f32 1124073472#32)
/-- Its largest score. -/
def topR (s : Fin 2304 → EReal) : EReal :=
  max (Ideal.ofBits .f32 4286578688#32) (Finset.fold max (Ideal.ofBits .f32 4286578688#32) s Finset.univ)
/-- The reference's weighted mean of a column of values. -/
def outR (s : Fin 2304 → EReal) (v : Fin 2304 → EReal) : EReal :=
  ∑ x, v x * Ideal.div (Ideal.exp (s x - topR s)) (∑ x, Ideal.exp (s x - topR s))

theorem sum_spans (f : Fin 2304 → EReal) : (∑ x, f (lo x)) + (∑ x, f (hi x)) = ∑ j, f j :=
  (Fin.sum_univ_add (a := 1280) (b := 1024) f).symm

theorem accK_eq (s v : Fin 2304 → EReal) : accK s v = ∑ j, Ideal.exp2 (s j - topK s) * v j :=
  sum_spans fun j => Ideal.exp2 (s j - topK s) * v j

theorem topK_eq (s : Fin 2304 → EReal) : topK s = Finset.univ.sup s := by
  unfold topK
  rw [bot16]
  refine le_antisymm (max_le ?_ ?_) (Finset.sup_le fun j _ => ?_)
  · exact Finset.sup_le (f := fun x => s (lo x)) fun x _ => Finset.le_sup (Finset.mem_univ (lo x))
  · exact Finset.sup_le (f := fun x => s (hi x)) fun x _ => Finset.le_sup (Finset.mem_univ (hi x))
  · by_cases h : j.val < 1280
    · have e : s (lo ⟨j.val, h⟩) ≤ Finset.univ.sup fun x => s (lo x) :=
        Finset.le_sup (f := fun x => s (lo x)) (Finset.mem_univ _)
      exact le_max_of_le_left e
    · have e : s (hi ⟨j.val - 1280, by omega⟩) ≤ Finset.univ.sup fun x => s (hi x) :=
        Finset.le_sup (f := fun x => s (hi x)) (Finset.mem_univ _)
      have ej : hi ⟨j.val - 1280, by omega⟩ = j := Fin.ext (by simp only [hi]; omega)
      rw [ej] at e
      exact le_max_of_le_right e

theorem topR_eq (s : Fin 2304 → EReal) : topR s = Finset.univ.sup s := by
  unfold topR
  rw [bot32, max_eq_right bot_le]
  rfl

/-- A finite nonnegative factor goes into a sum of any extended reals. -/
theorem sum_mul_coe {ι : Type} (A : Finset ι) (f : ι → EReal) {t : ℝ} (ht : 0 ≤ t) :
    (∑ x ∈ A, f x) * (t : EReal) = ∑ x ∈ A, f x * t := by
  classical
  induction A using Finset.induction_on with
  | empty => simp
  | insert a A ha ih =>
    rw [Finset.sum_insert ha, Finset.sum_insert ha,
      EReal.right_distrib_of_nonneg_of_ne_top (by exact_mod_cast ht) (EReal.coe_ne_top t), ih]

theorem coe_sum {ι : Type} (A : Finset ι) (f : ι → ℝ) : ((∑ x ∈ A, f x : ℝ) : EReal) = ∑ x ∈ A, (f x : EReal) := by
  classical
  induction A using Finset.induction_on with
  | empty => simp
  | insert a A ha ih => rw [Finset.sum_insert ha, Finset.sum_insert ha, EReal.coe_add, ih]

/-- A nonnegative factor keeps the place of the largest. -/
theorem sup_scale {ι : Type} [Fintype ι] (s : ι → ℝ) (j0 : ι) (h : ∀ j, s j ≤ s j0) {c : ℝ} (hc : 0 ≤ c) :
    (Finset.univ.sup fun j => ((s j * c : ℝ) : EReal)) = ((s j0 * c : ℝ) : EReal) :=
  le_antisymm (Finset.sup_le fun j _ => EReal.coe_le_coe_iff.2 (mul_le_mul_of_nonneg_right (h j) hc))
    (Finset.le_sup (f := fun j => ((s j * c : ℝ) : EReal)) (Finset.mem_univ j0))

theorem rs128 : Ideal.rsqrt (Ideal.ofBits .f32 1124073472#32) = (((Real.sqrt 128)⁻¹ : ℝ) : EReal) := by
  rw [c128, Ideal.rsqrt_coe, if_neg (by norm_num), if_neg (by norm_num)]

/-- The kernel's weighted sum over its sum of weights is the reference's weighted mean. -/
theorem attend (q : Fin 128 → EReal) (k : Fin 2304 → Fin 128 → EReal) (v : Fin 2304 → EReal)
    (hq : ∀ d, Real' (q d)) (hk : ∀ j d, Real' (k j d)) :
    Ideal.div (accK (scK (fun d => q d * kap) k) v) (accK (scK (fun d => q d * kap) k) fun _ => 1)
      = outR (scR q k) v := by
  choose a ha using hq
  choose b hb using hk
  have hl : 0 < Real.log 2 := Real.log_pos one_lt_two
  -- both scores are real, and differ by the factor 1 / ln 2
  let s : Fin 2304 → ℝ := fun j => (∑ d, b j d * a d) * (Real.sqrt 128)⁻¹
  have eR : scR q k = fun j => (s j : EReal) := by
    funext j
    simp only [scR, s, rs128, ha, hb, EReal.coe_mul, coe_sum]
  have eK : scK (fun d => q d * kap) k = fun j => ((s j * (Real.log 2)⁻¹ : ℝ) : EReal) := by
    funext j
    simp only [scK, s, kap, ha, hb, ← EReal.coe_mul, ← coe_sum]
    congr 1
    rw [Finset.sum_mul, Finset.sum_mul]
    exact Finset.sum_congr rfl fun d _ => by ring
  rw [eR, eK, accK_eq, accK_eq, topK_eq]
  clear_value s
  clear eR eK
  unfold outR
  rw [topR_eq]
  obtain ⟨j0, -, h0⟩ := Finset.exists_mem_eq_sup Finset.univ (Finset.univ_nonempty (α := Fin 2304)) fun j => (s j : EReal)
  have hmax : ∀ j, s j ≤ s j0 := fun j => by
    have := Finset.le_sup (f := fun j => (s j : EReal)) (Finset.mem_univ j)
    rw [h0] at this
    exact_mod_cast this
  have h1 := sup_scale s j0 hmax (inv_nonneg.2 hl.le)
  rw [h0, h1]
  have e2 : ∀ j, Ideal.exp2 (((s j * (Real.log 2)⁻¹ : ℝ) : EReal) - ((s j0 * (Real.log 2)⁻¹ : ℝ) : EReal))
      = ((Real.exp (s j - s j0) : ℝ) : EReal) := fun j => by
    rw [← EReal.coe_sub, Ideal.exp2_coe]
    refine congrArg (fun r : ℝ => (r : EReal)) ((Real.rpow_def_of_pos two_pos _).trans (congrArg Real.exp ?_))
    field_simp
  have e1 : ∀ j, Ideal.exp ((s j : EReal) - (s j0 : EReal)) = ((Real.exp (s j - s j0) : ℝ) : EReal) := fun j => by
    rw [← EReal.coe_sub, Ideal.exp_coe]
  simp only [e1, e2, mul_one]
  rw [← coe_sum]
  have hS : 0 < ∑ j, Real.exp (s j - s j0) := Finset.sum_pos (fun j _ => Real.exp_pos _) Finset.univ_nonempty
  rw [Ideal.div_coe hS.ne', sum_mul_coe _ _ (one_div_nonneg.2 hS.le)]
  refine Finset.sum_congr rfl fun j _ => ?_
  rw [Ideal.div_coe hS.ne', mul_assoc, mul_left_comm]

end Cert.Attn

end
-- ==== Proof.AttnArgs.lean ====
/-
  The blocks a point of the attention reads, in the call's own arguments over the extended reals: projection rows by batch
  and head, the doubled rotary tables and the gains as the host's few operations leave them.
-/
module

public import proofs.«01_k».proof.Proof.AttnFrame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The call's arguments on a core. -/
abbrev A0 (c : Dev nD) : Vec Ideal S8x56x2048x128 .bf16 := m ((c : Thread nD τ).loc main_arg0)
abbrev A1 (c : Dev nD) : Vec Ideal S8x56x256x128 .bf16 := m ((c : Thread nD τ).loc main_arg1)
abbrev A2 (c : Dev nD) : Vec Ideal S2048x64 .f32 := m ((c : Thread nD τ).loc main_arg2)
abbrev A3 (c : Dev nD) : Vec Ideal S2048x64 .f32 := m ((c : Thread nD τ).loc main_arg3)
abbrev A4 (c : Dev nD) : Vec Ideal S128 .f32 := m ((c : Thread nD τ).loc main_arg4)
abbrev A5 (c : Dev nD) : Vec Ideal S128 .f32 := m ((c : Thread nD τ).loc main_arg5)

/-- Where each window's block stands at a point. -/
theorem idx : ∀ t : Fin cfg0.N, win0_0.index t = ![t.val / 4, 0, t.val % 4, 0]
    ∧ win0_1.index t = ![t.val / 4, 0, min (t.val % 4 + 1) 3, 0]
    ∧ win0_2.index t = ![t.val / 4, 2, 0, 0] ∧ win0_3.index t = ![t.val / 4, 2, 0, 0]
    ∧ win0_4.index t = ![t.val / 4, 3, 0, 0] ∧ win0_5.index t = ![t.val / 4, 3, 0, 0]
    ∧ win0_6.index t = ![t.val / 4, 2, t.val % 4, 0]
    ∧ win0_7.index t = ![0, 0] ∧ win0_8.index t = ![0, 0] ∧ win0_9.index t = ![0, 0] ∧ win0_10.index t = ![0, 0]
    ∧ win0_11.index t = ![t.val / 4, t.val % 4, 0] := by
  decide +kernel

/-- The table rows a point prepares the next queries with start at the next block's. -/
theorem off5 : ∀ t : Fin cfg0.N, k0_off5 (grid0.coords t) = ![512 * min (t.val % 4 + 1) 3, 0] := by decide +kernel

section
variable (c : Dev nD) (t : Fin cfg0.N) (b : Fin 8) (hb : b.val = t.val / 4)
include hb

theorem blk0 (h : Fin 4) (r : Fin 512) (d : Fin 128) (R : Fin 2048) (hR : R.val = 512 * (t.val % 4) + r.val) :
    (iblk m c 0 t : Vec Ideal S1x4x512x128 .bf16) (Idealize.ShloMosaic.ix4 0 h r d)
      = A0 m c (Idealize.ShloMosaic.ix4 b ⟨h.val, by omega⟩ R d) := by
  blk_ext! [iblk, V, idx]
  all_goals omega

theorem blk1 (h : Fin 4) (r : Fin 512) (d : Fin 128) (R : Fin 2048) (hR : R.val = 512 * min (t.val % 4 + 1) 3 + r.val) :
    (iblk m c 1 t : Vec Ideal S1x4x512x128 .bf16) (Idealize.ShloMosaic.ix4 0 h r d)
      = A0 m c (Idealize.ShloMosaic.ix4 b ⟨h.val, by omega⟩ R d) := by
  blk_ext! [iblk, V, idx]
  all_goals omega

theorem blk2 (h : Fin 2) (r : Fin 2048) (d : Fin 128) :
    (iblk m c 2 t : Vec Ideal S1x2x2048x128 .bf16) (Idealize.ShloMosaic.ix4 0 h r d)
      = A0 m c (Idealize.ShloMosaic.ix4 b ⟨4 + h.val, by omega⟩ r d) := by
  blk_ext! [iblk, V, idx]
  all_goals omega

theorem blk3 (h : Fin 2) (r : Fin 256) (d : Fin 128) :
    (iblk m c 3 t : Vec Ideal S1x2x256x128 .bf16) (Idealize.ShloMosaic.ix4 0 h r d)
      = A1 m c (Idealize.ShloMosaic.ix4 b ⟨4 + h.val, by omega⟩ r d) := by
  blk_ext! [iblk, V, idx]
  all_goals omega

theorem blk4 (h : Fin 2) (r : Fin 2048) (d : Fin 128) :
    (iblk m c 4 t : Vec Ideal S1x2x2048x128 .bf16) (Idealize.ShloMosaic.ix4 0 h r d)
      = A0 m c (Idealize.ShloMosaic.ix4 b ⟨6 + h.val, by omega⟩ r d) := by
  blk_ext! [iblk, V, idx]
  all_goals omega

theorem blk5 (h : Fin 2) (r : Fin 256) (d : Fin 128) :
    (iblk m c 5 t : Vec Ideal S1x2x256x128 .bf16) (Idealize.ShloMosaic.ix4 0 h r d)
      = A1 m c (Idealize.ShloMosaic.ix4 b ⟨6 + h.val, by omega⟩ r d) := by
  blk_ext! [iblk, V, idx]
  all_goals omega

theorem blk6 (h : Fin 4) (r : Fin 512) (d : Fin 128) (R : Fin 2048) (hR : R.val = 512 * (t.val % 4) + r.val) :
    (iblk m c 6 t : Vec Ideal S1x4x512x128 .bf16) (Idealize.ShloMosaic.ix4 0 h r d)
      = A0 m c (Idealize.ShloMosaic.ix4 b ⟨8 + h.val, by omega⟩ R d) := by
  blk_ext! [iblk, V, idx]
  all_goals omega
end

/-! ## The arrays the host prepares -/

theorem v0_eq (c : Dev nD) : (V m c main_v0 : Vec Ideal S2048x128 .f32)
    = concatenate S2048x128 1 [⟨S2048x64, A2 m c⟩, ⟨S2048x64, A2 m c⟩] concatenates_S2048x64_S2048x64_S2048x128_d1 := by
  unfold_abbrev_sides
  after_results
theorem v2_eq (c : Dev nD) : (V m c main_v2 : Vec Ideal S2048x128 .f32)
    = concatenate S2048x128 1 [⟨S2048x64, negf (F := Ideal) (φ := .f32) (A3 m c)⟩, ⟨S2048x64, A3 m c⟩]
        concatenates_S2048x64_S2048x64_S2048x128_d1 := by
  unfold_abbrev_sides
  after_results
  rfl
theorem v3_eq (c : Dev nD) : (V m c main_v3 : Vec Ideal S1x128 .f32)
    = broadcastInDim S1x128 ![1] bcast_S128_S1x128_1 (A4 m c) := by
  unfold_abbrev_sides
  after_results
theorem v4_eq (c : Dev nD) : (V m c main_v4 : Vec Ideal S1x128 .f32)
    = broadcastInDim S1x128 ![1] bcast_S128_S1x128_1 (A5 m c) := by
  unfold_abbrev_sides
  after_results

/-- A doubled table, and a gain as a row, an element at a time. -/
theorem double_apply (w w' : Vec Ideal S2048x64 .f32) (r : Fin 2048) (d : Fin 128) :
    concatenate S2048x128 1 [⟨S2048x64, w⟩, ⟨S2048x64, w'⟩] concatenates_S2048x64_S2048x64_S2048x128_d1
        (Idealize.ShloMosaic.ix2 r d)
      = if h : d.val < 64 then w (Idealize.ShloMosaic.ix2 r ⟨d.val, h⟩)
        else w' (Idealize.ShloMosaic.ix2 r ⟨d.val - 64, by omega⟩) := by
  pointwise
theorem row_apply (w : Vec Ideal S128 .f32) (d : Fin 128) :
    broadcastInDim S1x128 ![1] bcast_S128_S1x128_1 w (Idealize.ShloMosaic.ix2 0 d) = w (Idealize.ShloMosaic.ix1 d) := by
  pointwise

variable (c : Dev nD) (t : Fin cfg0.N)

theorem blk7 (r : Fin 2048) (d : Fin 128) :
    (iblk m c 7 t : Vec Ideal S2048x128 .f32) (Idealize.ShloMosaic.ix2 r d)
      = if h : d.val < 64 then A2 m c (Idealize.ShloMosaic.ix2 r ⟨d.val, h⟩)
        else A2 m c (Idealize.ShloMosaic.ix2 r ⟨d.val - 64, by omega⟩) := by
  have h : (iblk m c 7 t : Vec Ideal S2048x128 .f32) (Idealize.ShloMosaic.ix2 r d)
      = (V m c main_v0 : Vec Ideal S2048x128 .f32) (Idealize.ShloMosaic.ix2 r d) := by
    unfold iblk
    blk_ext! [idx]
    all_goals omega
  rw [h, v0_eq]
  exact double_apply _ _ r d

theorem blk8 (r : Fin 2048) (d : Fin 128) :
    (iblk m c 8 t : Vec Ideal S2048x128 .f32) (Idealize.ShloMosaic.ix2 r d)
      = if h : d.val < 64 then -A3 m c (Idealize.ShloMosaic.ix2 r ⟨d.val, h⟩)
        else A3 m c (Idealize.ShloMosaic.ix2 r ⟨d.val - 64, by omega⟩) := by
  have h : (iblk m c 8 t : Vec Ideal S2048x128 .f32) (Idealize.ShloMosaic.ix2 r d)
      = (V m c main_v2 : Vec Ideal S2048x128 .f32) (Idealize.ShloMosaic.ix2 r d) := by
    unfold iblk
    blk_ext! [idx]
    all_goals omega
  rw [h, v2_eq]
  exact double_apply _ _ r d

theorem blk9 (d : Fin 128) :
    (iblk m c 9 t : Vec Ideal S1x128 .f32) (Idealize.ShloMosaic.ix2 0 d) = A4 m c (Idealize.ShloMosaic.ix1 d) := by
  have h : (iblk m c 9 t : Vec Ideal S1x128 .f32) (Idealize.ShloMosaic.ix2 0 d)
      = (V m c main_v3 : Vec Ideal S1x128 .f32) (Idealize.ShloMosaic.ix2 0 d) := by
    unfold iblk
    blk_ext! [idx]
    all_goals omega
  rw [h, v3_eq]
  exact row_apply _ d

theorem blk10 (d : Fin 128) :
    (iblk m c 10 t : Vec Ideal S1x128 .f32) (Idealize.ShloMosaic.ix2 0 d) = A5 m c (Idealize.ShloMosaic.ix1 d) := by
  have h : (iblk m c 10 t : Vec Ideal S1x128 .f32) (Idealize.ShloMosaic.ix2 0 d)
      = (V m c main_v4 : Vec Ideal S1x128 .f32) (Idealize.ShloMosaic.ix2 0 d) := by
    unfold iblk
    blk_ext! [idx]
    all_goals omega
  rw [h, v4_eq]
  exact row_apply _ d

end Cert.KernelIdeal.Attn

end
-- ==== Proof.AttnBlock.lean ====
/-
  What a point of the attention computes, read at one element over the extended reals: the prepared query heads
  (`qh_apply`), the prepared keys and values (`kL_apply`, `vL_apply`), the weighted sums (`acc2_apply`) and the block the
  point leaves (`outL_apply`).
-/
module

public import proofs.«01_k».proof.Proof.AttnFrame
public import proofs.«01_k».proof.Proof.AttnMath
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

/-- The named scale is the one the reference's mathematics has. -/
theorem kap_eq : Named.named (F := Ideal) κ "qscale" (φ := .f32) 1040356334#32 = kap := rfl

/-- Lane `d` moved by half a row. -/
def mv (d : Fin 128) : Fin 128 := ⟨(d.val + 128 - 64) % 128, Nat.mod_lt _ (by norm_num)⟩

theorem qh_apply (ct st : Vec Ideal S512x128 .f32) (x : Vec Ideal S1x1x512x128 .bf16) (g : Vec Ideal S1x128 .f32)
    (r : Fin 512) (d : Fin 128) :
    qh ct st x g (Idealize.ShloMosaic.ix4 0 0 r d)
      = (nrm (fun d => x (Idealize.ShloMosaic.ix4 0 0 r d)) (fun d => g (Idealize.ShloMosaic.ix2 0 d)) d
          * ct (Idealize.ShloMosaic.ix2 r d)
        + nrm (fun d => x (Idealize.ShloMosaic.ix4 0 0 r d)) (fun d => g (Idealize.ShloMosaic.ix2 0 d)) (mv d)
          * st (Idealize.ShloMosaic.ix2 r d)) * kap := by
  unfold qh gn
  rw [← kap_eq]
  unfold nrm rnorm mv
  unfold_payloads
  pointwise

theorem kc_apply (x : Vec Ideal S1x1x256x128 .bf16) (g : Vec Ideal S1x128 .f32) (r : Fin 256) (d : Fin 128) :
    kc x g (Idealize.ShloMosaic.ix3 0 r d)
      = nrm (fun d => x (Idealize.ShloMosaic.ix4 0 0 r d)) (fun d => g (Idealize.ShloMosaic.ix2 0 d)) d := by
  unfold kc gn nrm rnorm
  unfold_payloads
  pointwise

theorem kl_apply (x : Vec Ideal S1x1x2048x128 .bf16) (ct st : Vec Ideal S2048x128 .f32) (g : Vec Ideal S1x128 .f32)
    (r : Fin 2048) (d : Fin 128) :
    kl x ct st g (Idealize.ShloMosaic.ix3 0 r d)
      = nrm (fun d => x (Idealize.ShloMosaic.ix4 0 0 r d)) (fun d => g (Idealize.ShloMosaic.ix2 0 d)) d
          * ct (Idealize.ShloMosaic.ix2 r d)
        + nrm (fun d => x (Idealize.ShloMosaic.ix4 0 0 r d)) (fun d => g (Idealize.ShloMosaic.ix2 0 d)) (mv d)
          * st (Idealize.ShloMosaic.ix2 r d) := by
  unfold kl gn nrm rnorm mv
  unfold_payloads
  pointwise

/-- A column of the values with their column of ones: the head's own below 128, ones at 128. -/
theorem v20_apply (x : Vec Ideal S1x1x256x128 .bf16) (r : Fin 256) (d : Fin 128) :
    k0_pay20 x (Idealize.ShloMosaic.ix3 0 r ⟨d.val, by omega⟩) = x (Idealize.ShloMosaic.ix4 0 0 r d) := by
  unfold_payloads
  pointwise

theorem v20_one (x : Vec Ideal S1x1x256x128 .bf16) (r : Fin 256) :
    k0_pay20 x (Idealize.ShloMosaic.ix3 0 r 128) = 1 := by
  unfold_payloads
  pointwise

theorem v21_apply (x : Vec Ideal S1x1x2048x128 .bf16) (r : Fin 2048) (d : Fin 128) :
    k0_pay21 x (Idealize.ShloMosaic.ix3 0 r ⟨d.val, by omega⟩) = x (Idealize.ShloMosaic.ix4 0 0 r d) := by
  unfold_payloads
  pointwise

theorem v21_one (x : Vec Ideal S1x1x2048x128 .bf16) (r : Fin 2048) :
    k0_pay21 x (Idealize.ShloMosaic.ix3 0 r 128) = 1 := by
  unfold_payloads
  pointwise

/-- Row `r` of two stacked query heads. -/
def stk (q0 q1 : Vec Ideal S1x1x512x128 .bf16) (r : Fin 1024) (d : Fin 128) : EReal :=
  if h : r.val < 512 then q0 (Idealize.ShloMosaic.ix4 0 0 ⟨r.val, h⟩ d)
  else q1 (Idealize.ShloMosaic.ix4 0 0 ⟨r.val - 512, by omega⟩ d)

theorem acc2_apply (q0 q1 : Vec Ideal S1x1x512x128 .bf16) (k1 : Vec Ideal S1x1280x128 .bf16)
    (v1 : Vec Ideal S1x1280x256 .bf16) (k2 : Vec Ideal S1x1024x128 .bf16) (v2 : Vec Ideal S1x1024x256 .bf16)
    (r : Fin 1024) (l : Fin 256) (s : Fin 2304 → EReal)
    (hlo : ∀ x, s (lo x) = ∑ d, stk q0 q1 r d * k1 (Idealize.ShloMosaic.ix3 0 x d))
    (hhi : ∀ x, s (hi x) = ∑ d, stk q0 q1 r d * k2 (Idealize.ShloMosaic.ix3 0 x d)) :
    acc2 q0 q1 k1 v1 k2 v2 (Idealize.ShloMosaic.ix2 r l)
      = (∑ x, Ideal.exp2 (s (lo x) - topK s) * v1 (Idealize.ShloMosaic.ix3 0 x l))
        + ∑ x, Ideal.exp2 (s (hi x) - topK s) * v2 (Idealize.ShloMosaic.ix3 0 x l) := by
  unfold topK
  simp only [hlo, hhi]
  unfold acc2 stk
  unfold_payloads
  pointwise
  rfl

theorem accK0_apply (K : Vec Ideal S2x2304x128 .bf16) (V : Vec Ideal S2x2304x256 .bf16)
    (q0 q1 : Vec Ideal S1x1x512x128 .bf16) (r : Fin 1024) (l : Fin 256) :
    accK0 K V q0 q1 (Idealize.ShloMosaic.ix2 r l)
      = accK (scK (stk q0 q1 r) fun j d => K (Idealize.ShloMosaic.ix3 0 j d)) fun j => V (Idealize.ShloMosaic.ix3 0 j l) := by
  unfold accK0
  rw [acc2_apply _ _ _ _ _ _ r l (scK (stk q0 q1 r) fun j d => K (Idealize.ShloMosaic.ix3 0 j d))]
  · unfold accK
    generalize scK _ _ = s
    refine congrArg₂ (· + ·) (Finset.sum_congr rfl fun x _ => congrArg₂ (· * ·) rfl ?_)
      (Finset.sum_congr rfl fun x _ => congrArg₂ (· * ·) rfl ?_)
    all_goals
      simp only [lo, hi]
      pointwise
  all_goals
    intro x
    unfold scK
    refine Finset.sum_congr rfl fun d _ => congrArg₂ (· * ·) rfl ?_
    simp only [lo, hi]
    pointwise

theorem accK1_apply (K : Vec Ideal S2x2304x128 .bf16) (V : Vec Ideal S2x2304x256 .bf16)
    (q0 q1 : Vec Ideal S1x1x512x128 .bf16) (r : Fin 1024) (l : Fin 256) :
    accK1 K V q0 q1 (Idealize.ShloMosaic.ix2 r l)
      = accK (scK (stk q0 q1 r) fun j d => K (Idealize.ShloMosaic.ix3 1 j d)) fun j => V (Idealize.ShloMosaic.ix3 1 j l) := by
  unfold accK1
  rw [acc2_apply _ _ _ _ _ _ r l (scK (stk q0 q1 r) fun j d => K (Idealize.ShloMosaic.ix3 1 j d))]
  · unfold accK
    generalize scK _ _ = s
    refine congrArg₂ (· + ·) (Finset.sum_congr rfl fun x _ => congrArg₂ (· * ·) rfl ?_)
      (Finset.sum_congr rfl fun x _ => congrArg₂ (· * ·) rfl ?_)
    all_goals
      simp only [lo, hi]
      pointwise
  all_goals
    intro x
    unfold scK
    refine Finset.sum_congr rfl fun d _ => congrArg₂ (· * ·) rfl ?_
    simp only [lo, hi]
    pointwise

theorem p61_apply (a : Vec Ideal S1024x256 .f32) (g : Vec Ideal S1x1x512x128 .bf16) (r : Fin 512) (l : Fin 128) :
    k0_pay61 a g (Idealize.ShloMosaic.ix3 0 r l)
      = Ideal.div (a (Idealize.ShloMosaic.ix2 ⟨r.val, by omega⟩ ⟨l.val, by omega⟩)) (a (Idealize.ShloMosaic.ix2 ⟨r.val, by omega⟩ 128))
        * (g (Idealize.ShloMosaic.ix4 0 0 r l) * Ideal.logistic (g (Idealize.ShloMosaic.ix4 0 0 r l))) := by
  unfold_payloads
  pointwise

theorem p62_apply (a : Vec Ideal S1024x256 .f32) (g : Vec Ideal S1x1x512x128 .bf16) (r : Fin 512) (l : Fin 128) :
    k0_pay1 (k0_pay62 a g) (Idealize.ShloMosaic.ix3 0 r l)
      = Ideal.div (a (Idealize.ShloMosaic.ix2 ⟨512 + r.val, by omega⟩ ⟨l.val, by omega⟩)) (a (Idealize.ShloMosaic.ix2 ⟨512 + r.val, by omega⟩ 128))
        * (g (Idealize.ShloMosaic.ix4 0 0 r l) * Ideal.logistic (g (Idealize.ShloMosaic.ix4 0 0 r l))) := by
  unfold_payloads
  pointwise

end Cert.KernelIdeal.Attn

end
-- ==== Proof.AttnRef.lean ====
/-
  The attention's reference read at one element, in the terms of AttnMath: the weighted mean of a column of values by the
  scores of one prepared query against the prepared keys, times the gate (`ref_apply`).
-/
module

public import proofs.«01_k».proof.Proof.Gen.ReferenceIdeal.Read
public import proofs.«01_k».proof.Proof.AttnMath
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Attn

open Cert.ReferenceIdeal Cert.ReferenceIdeal.Read Idealize.ShloMosaic Idealize.ShloMosaic.TcCoe Idealize.SL.Sem
open Idealize.ShloMosaic.ValueIdx

variable (x0 : Vec Ideal S8x56x2048x128 .bf16) (x1 : Vec Ideal S8x56x256x128 .bf16) (x2 x3 : Vec Ideal S2048x64 .f32)
  (x4 x5 : Vec Ideal S128 .f32)

/-- Row `r` of chunk `h` of the latent and of the context projection, and the rows of the tables and gains. -/
def xrow (b : Fin 8) (h : Fin 56) (r : Fin 2048) (d : Fin 128) : EReal := x0 (Idealize.ShloMosaic.ix4 b h r d)
def crow (b : Fin 8) (h : Fin 56) (r : Fin 256) (d : Fin 128) : EReal := x1 (Idealize.ShloMosaic.ix4 b h r d)
def trow (r : Fin 2048) (d : Fin 64) : EReal := x2 (Idealize.ShloMosaic.ix2 r d)
def grow (d : Fin 128) : EReal := x4 (Idealize.ShloMosaic.ix1 d)

/-- The prepared query of head `h`, row `r`. -/
def Qr (b : Fin 8) (h : Fin 4) (r : Fin 2048) : Fin 128 → EReal :=
  turn (nrm (xrow x0 b ⟨h.val, by omega⟩ r) (grow x4)) (trow x2 r) (trow x3 r)
/-- The prepared key `j` of key/value head `h`: the context's rows first. -/
def Kr (b : Fin 8) (h : Fin 2) (j : Fin 2304) : Fin 128 → EReal :=
  if hj : j.val < 256 then nrm (crow x1 b ⟨4 + h.val, by omega⟩ ⟨j.val, hj⟩) (grow x5)
  else turn (nrm (xrow x0 b ⟨4 + h.val, by omega⟩ ⟨j.val - 256, by omega⟩) (grow x5)) (trow x2 ⟨j.val - 256, by omega⟩)
    (trow x3 ⟨j.val - 256, by omega⟩)
/-- Column `d` of value `j` of key/value head `h`. -/
def Vr (b : Fin 8) (h : Fin 2) (d : Fin 128) (j : Fin 2304) : EReal :=
  if hj : j.val < 256 then crow x1 b ⟨6 + h.val, by omega⟩ ⟨j.val, hj⟩ d
  else xrow x0 b ⟨6 + h.val, by omega⟩ ⟨j.val - 256, by omega⟩ d
/-- The gate. -/
def silu (x : EReal) : EReal := x * Ideal.logistic x

theorem qn_apply (b : Fin 8) (r : Fin 2048) (h : Fin 4) (d : Fin 128) :
    val_main_v30 (F := Ideal) x0 x4 (Idealize.ShloMosaic.ix4 b r h d)
      = nrm (xrow x0 b ⟨h.val, by omega⟩ r) (grow x4) d := by
  unfold nrm rnorm xrow grow
  pointwise [val_main_v30, val_main_v29, val_main_v28, val_main_v27, val_main_v26, val_main_v25, val_main_v24,
    val_main_v23, val_main_v22, val_main_v21, val_main_v20, val_main_v19, val_main_v18, val_main_v2, val_main_v1,
    val_main_v0, val_main_cst, val_main_cst_0, val_main_cst_1]

theorem kn_apply (b : Fin 8) (r : Fin 2048) (h : Fin 2) (d : Fin 128) :
    val_main_v58 (F := Ideal) x0 x5 (Idealize.ShloMosaic.ix4 b r h d)
      = nrm (xrow x0 b ⟨4 + h.val, by omega⟩ r) (grow x5) d := by
  unfold nrm rnorm xrow grow
  pointwise [val_main_v58, val_main_v57, val_main_v56, val_main_v55, val_main_v54, val_main_v53, val_main_v52,
    val_main_v51, val_main_v50, val_main_v49, val_main_v48, val_main_v47, val_main_v46, val_main_v5, val_main_v4,
    val_main_v3, val_main_cst_2, val_main_cst_3, val_main_cst_4]

theorem cn_apply (b : Fin 8) (r : Fin 256) (h : Fin 2) (d : Fin 128) :
    val_main_v86 (F := Ideal) x1 x5 (Idealize.ShloMosaic.ix4 b r h d)
      = nrm (crow x1 b ⟨4 + h.val, by omega⟩ r) (grow x5) d := by
  unfold nrm rnorm crow grow
  pointwise [val_main_v86, val_main_v85, val_main_v84, val_main_v83, val_main_v82, val_main_v81, val_main_v80,
    val_main_v79, val_main_v78, val_main_v77, val_main_v76, val_main_v75, val_main_v74, val_main_v14, val_main_v13,
    val_main_v12, val_main_cst_5, val_main_cst_6, val_main_cst_7]

theorem q_apply (b : Fin 8) (r : Fin 2048) (h : Fin 4) (d : Fin 128) :
    val_main_v45 (F := Ideal) x0 x2 x3 x4 (Idealize.ShloMosaic.ix4 b r h d) = Qr x0 x2 x3 x4 b h r d := by
  pointwise [val_main_v45, val_main_v44, val_main_v43, val_main_v42, val_main_v41, val_main_v40, val_main_v39,
    val_main_v38, val_main_v37, val_main_v36, val_main_v35, val_main_v34, val_main_v33, val_main_v32, val_main_v31]
  simp only [qn_apply]
  rfl

theorem kt_apply (b : Fin 8) (r : Fin 2048) (h : Fin 2) (d : Fin 128) :
    val_main_v73 (F := Ideal) x0 x2 x3 x5 (Idealize.ShloMosaic.ix4 b r h d)
      = turn (nrm (xrow x0 b ⟨4 + h.val, by omega⟩ r) (grow x5)) (trow x2 r) (trow x3 r) d := by
  pointwise [val_main_v73, val_main_v72, val_main_v71, val_main_v70, val_main_v69, val_main_v68, val_main_v67,
    val_main_v66, val_main_v65, val_main_v64, val_main_v63, val_main_v62, val_main_v61, val_main_v60, val_main_v59]
  simp only [kn_apply]
  rfl

theorem k_apply (b : Fin 8) (j : Fin 2304) (h : Fin 2) (d : Fin 128) :
    val_main_v87 (F := Ideal) x0 x1 x2 x3 x5 (Idealize.ShloMosaic.ix4 b j h d) = Kr x0 x1 x2 x3 x5 b h j d := by
  pointwise [val_main_v87]
  simp only [cn_apply, kt_apply]
  unfold Kr
  by_cases hj : j.val < 256
  · rw [dif_pos hj, dif_pos hj]
  · rw [dif_neg hj, dif_neg hj]

theorem v_apply (b : Fin 8) (j : Fin 2304) (h : Fin 2) (d : Fin 128) :
    val_main_v88 (F := Ideal) x0 x1 (Idealize.ShloMosaic.ix4 b j h d) = Vr x0 x1 b h d j := by
  unfold Vr xrow crow
  pointwise [val_main_v88, val_main_v17, val_main_v16, val_main_v15, val_main_v8, val_main_v7, val_main_v6]

theorem s_apply (b : Fin 8) (r : Fin 2048) (k g : Fin 2) (h : Fin 4) (hh : h.val = k.val * 2 + g.val) (j : Fin 2304) :
    val_main_v94 (F := Ideal) x0 x1 x2 x3 x4 x5 (Idealize.ShloMosaic.ix5 b k g r j)
      = scR (Qr x0 x2 x3 x4 b h r) (Kr x0 x1 x2 x3 x5 b k) j := by
  pointwise [val_main_v94, val_main_v93, val_main_v92, val_main_v91, val_main_v90, val_main_v89, val_main_cst_8]
  simp only [k_apply, q_apply, show ∀ p, (⟨k.val * 2 + g.val, p⟩ : Fin 4) = h from fun p => Fin.ext hh.symm]
  rfl

/-- The host's largest element along the last of five axes. -/
theorem host_max {n0 n1 n2 n3 n4 : ℕ} {u : Shape} (w : (⟨5, ![n0, n1, n2, n3, n4]⟩ : Shape).Idx → EReal) (z : u.Idx → EReal)
    (hr : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (max : EReal → EReal → EReal) w z hr hu (Idealize.ShloMosaic.ix4 a b c d)
      = Finset.fold max (z (Shape.Idx.first hu)) (fun k => w (Idealize.ShloMosaic.ix5 a b c d k)) Finset.univ := by
  rw [Host.reduce_eq_fold, Shape.ReducesTo.fold_fiber_r5_a4]
  rfl

theorem top_apply (b : Fin 8) (r : Fin 2048) (k g : Fin 2) :
    val_main_v97 (F := Ideal) x0 x1 x2 x3 x4 x5 (Idealize.ShloMosaic.ix4 b k g r)
      = topR fun x => val_main_v94 (F := Ideal) x0 x1 x2 x3 x4 x5 (Idealize.ShloMosaic.ix5 b k g r x) := by
  rw [val_main_v97_apply, val_main_v96_apply, val_main_cst_10_apply]
  refine congrArg₂ max rfl ?_
  unfold val_main_v95
  generalize val_main_v94 (F := Ideal) x0 x1 x2 x3 x4 x5 = w
  exact host_max w _ _ _ b k g r

theorem e_apply (b : Fin 8) (r : Fin 2048) (k g : Fin 2) (j : Fin 2304) :
    val_main_v101 (F := Ideal) x0 x1 x2 x3 x4 x5 (Idealize.ShloMosaic.ix5 b k g r j)
      = Ideal.exp (val_main_v94 (F := Ideal) x0 x1 x2 x3 x4 x5 (Idealize.ShloMosaic.ix5 b k g r j)
        - val_main_v97 (F := Ideal) x0 x1 x2 x3 x4 x5 (Idealize.ShloMosaic.ix4 b k g r)) := by
  pointwise [val_main_v101, val_main_v100, val_main_v99, val_main_v98]

theorem p_apply (b : Fin 8) (r : Fin 2048) (k g : Fin 2) (j : Fin 2304) :
    val_main_v105 (F := Ideal) x0 x1 x2 x3 x4 x5 (Idealize.ShloMosaic.ix5 b k g r j)
      = Ideal.div (val_main_v101 (F := Ideal) x0 x1 x2 x3 x4 x5 (Idealize.ShloMosaic.ix5 b k g r j))
        (∑ x, val_main_v101 (F := Ideal) x0 x1 x2 x3 x4 x5 (Idealize.ShloMosaic.ix5 b k g r x)) := by
  pointwise [val_main_v105, val_main_v104, val_main_v103, val_main_v102, val_main_cst_11]

theorem ref_apply (b : Fin 8) (r : Fin 2048) (l : Fin 512) (h : Fin 4) (k : Fin 2) (d : Fin 128)
    (hh : h.val = l.val / 128) (hk : k.val = l.val / 256) (hd : d.val = l.val % 128) :
    val_main_v112 (F := Ideal) x0 x1 x2 x3 x4 x5 (Idealize.ShloMosaic.ix3 b r l)
      = outR (scR (Qr x0 x2 x3 x4 b h r) (Kr x0 x1 x2 x3 x5 b k)) (Vr x0 x1 b k d)
        * silu (xrow x0 b ⟨8 + h.val, by omega⟩ r d) := by
  pointwise [val_main_v112, val_main_v111, val_main_v110, val_main_v109, val_main_v108, val_main_v107, val_main_v106,
    val_main_v11, val_main_v10, val_main_v9, val_main_call0_v5, val_main_call0_v4, val_main_call0_v3, val_main_call0_v2,
    val_main_call0_v1, val_main_call0_v0, val_main_call0_cst, val_main_call0_cst_0]
  simp only [p_apply, e_apply, top_apply]
  simp only [show ∀ p, (⟨l.val / 256, p⟩ : Fin 2) = k from fun p => Fin.ext hk.symm,
    show ∀ p, (⟨l.val % 128, p⟩ : Fin 128) = d from fun p => Fin.ext hd.symm,
    s_apply x0 x1 x2 x3 x4 x5 b r k ⟨l.val / 128 % 2, by omega⟩ h (by dsimp only; omega), v_apply]
  have e : (⟨8 + l.val / 128, by omega⟩ : Fin 56) = ⟨8 + h.val, by omega⟩ := Fin.ext (by dsimp only; omega)
  unfold silu outR xrow Ideal.logistic
  rw [← e]

end Cert.Attn

end
-- ==== Proof.AttnParts.lean ====
/-
  The attention's prepared keys and values and one point's output block, element by element.

  The keys are stored in four parts and the values likewise, context rows first for each key/value head (`keyAt`,
  `valAt`); the output block is stored a query head at a time (`outL_apply`).
-/
module

public import proofs.«01_k».proof.Proof.AttnBlock
public import proofs.«01_k».proof.Proof.AttnRef

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

section
variable (x2 : Vec Ideal S1x2x2048x128 .bf16) (x3 : Vec Ideal S1x2x256x128 .bf16) (x7 x8 : Vec Ideal S2048x128 .f32)
  (x10 : Vec Ideal S1x128 .f32)

/-- The gains' row. -/
def gain (x : Vec Ideal S1x128 .f32) (d : Fin 128) : EReal := x (Idealize.ShloMosaic.ix2 0 d)
/-- Row `r` of head `h` of a block of latent rows, and of context rows. -/
def lrow (h : Fin 2) (r : Fin 2048) (d : Fin 128) : EReal := x2 (Idealize.ShloMosaic.ix4 0 h r d)
def trw (h : Fin 2) (r : Fin 256) (d : Fin 128) : EReal := x3 (Idealize.ShloMosaic.ix4 0 h r d)

/-- Element `d` of the prepared key `j` of key/value head `h`. -/
def keyAt (h : Fin 2) (j : Fin 2304) (d : Fin 128) : EReal :=
  if hj : j.val < 256 then nrm (trw x3 h ⟨j.val, hj⟩) (gain x10) d
  else nrm (lrow x2 h ⟨j.val - 256, by omega⟩) (gain x10) d * x7 (Idealize.ShloMosaic.ix2 ⟨j.val - 256, by omega⟩ d)
    + nrm (lrow x2 h ⟨j.val - 256, by omega⟩) (gain x10) (mv d) * x8 (Idealize.ShloMosaic.ix2 ⟨j.val - 256, by omega⟩ d)

/-- A head of a block of latent rows, a row at a time; of context rows likewise. -/
theorem ld2_0 (r : Fin 2048) : (fun d => View.ld x2 (Rect.unit ![0, 0, 0, 0] S1x1x2048x128.size inb_S1x2x2048x128_S1x1x2048x128_0_0_0_0)
    (Idealize.ShloMosaic.ix4 0 0 r d)) = lrow x2 0 r := by
  funext d
  unfold lrow
  pointwise
theorem ld2_1 (r : Fin 2048) : (fun d => View.ld x2 (Rect.unit ![0, 1, 0, 0] S1x1x2048x128.size inb_S1x2x2048x128_S1x1x2048x128_0_1_0_0)
    (Idealize.ShloMosaic.ix4 0 0 r d)) = lrow x2 1 r := by
  funext d
  unfold lrow
  pointwise
theorem ld3_0 (r : Fin 256) : (fun d => View.ld x3 (Rect.unit ![0, 0, 0, 0] S1x1x256x128.size inb_S1x2x256x128_S1x1x256x128_0_0_0_0)
    (Idealize.ShloMosaic.ix4 0 0 r d)) = trw x3 0 r := by
  funext d
  unfold trw
  pointwise
theorem ld3_1 (r : Fin 256) : (fun d => View.ld x3 (Rect.unit ![0, 1, 0, 0] S1x1x256x128.size inb_S1x2x256x128_S1x1x256x128_0_1_0_0)
    (Idealize.ShloMosaic.ix4 0 0 r d)) = trw x3 1 r := by
  funext d
  unfold trw
  pointwise

theorem keyAt_lo (h : Fin 2) (r : Fin 256) (j : Fin 2304) (hj : j.val = r.val) (d : Fin 128) :
    keyAt x2 x3 x7 x8 x10 h j d = nrm (trw x3 h r) (gain x10) d := by
  unfold keyAt
  rw [dif_pos (by omega)]
  simp only [show ∀ p, (⟨j.val, p⟩ : Fin 256) = r from fun p => Fin.ext hj]

theorem keyAt_hi (h : Fin 2) (r : Fin 2048) (j : Fin 2304) (hj : j.val = 256 + r.val) (d : Fin 128) :
    keyAt x2 x3 x7 x8 x10 h j d = nrm (lrow x2 h r) (gain x10) d * x7 (Idealize.ShloMosaic.ix2 r d)
      + nrm (lrow x2 h r) (gain x10) (mv d) * x8 (Idealize.ShloMosaic.ix2 r d) := by
  unfold keyAt
  rw [dif_neg (by omega)]
  simp only [show ∀ p, (⟨j.val - 256, p⟩ : Fin 2048) = r from fun p => Fin.ext (by dsimp only; omega)]

theorem kL_apply (h : Fin 2) (j : Fin 2304) (d : Fin 128) :
    View.canon (kL x2 x3 x7 x8 x10) (Idealize.ShloMosaic.ix3 h j d) = keyAt x2 x3 x7 x8 x10 h j d := by
  have hc := kL_cover x2 x3 x7 x8 x10 (Idealize.ShloMosaic.ix3 h j d)
  unfold kL at hc ⊢
  canon_tiles x w using hc
  all_goals
    clear hc
    obtain ⟨a, r, e, rfl⟩ : ∃ a r e, x = Idealize.ShloMosaic.ix3 a r e := ⟨_, _, _, Idealize.ShloMosaic.eq_ix3 x⟩
    obtain rfl : a = 0 := Subsingleton.elim _ _
    obtain rfl : d = e := Fin.ext w2
  · obtain rfl : h = 1 := Fin.ext w0
    rw [kl_apply, ld2_1, keyAt_hi (r := r) (hj := show j.val = 256 + r.val from w1)]
    rfl
  · obtain rfl : h = 1 := Fin.ext w0
    rw [kc_apply, ld3_1, keyAt_lo (r := r) (hj := show j.val = r.val from w1)]
    rfl
  · obtain rfl : h = 0 := Fin.ext w0
    rw [kl_apply, ld2_0, keyAt_hi (r := r) (hj := show j.val = 256 + r.val from w1)]
    rfl
  · obtain rfl : h = 0 := Fin.ext w0
    rw [kc_apply, ld3_0, keyAt_lo (r := r) (hj := show j.val = r.val from w1)]
    rfl

/-- Element `d` of the value `j` of key/value head `h`. -/
def valAt (h : Fin 2) (d : Fin 128) (j : Fin 2304) : EReal :=
  if hj : j.val < 256 then trw x3 h ⟨j.val, hj⟩ d else lrow x2 h ⟨j.val - 256, by omega⟩ d

theorem valAt_lo (h : Fin 2) (r : Fin 256) (j : Fin 2304) (hj : j.val = r.val) (d : Fin 128) :
    valAt x2 x3 h d j = trw x3 h r d := by
  unfold valAt
  rw [dif_pos (by omega)]
  simp only [show ∀ p, (⟨j.val, p⟩ : Fin 256) = r from fun p => Fin.ext hj]

theorem valAt_hi (h : Fin 2) (r : Fin 2048) (j : Fin 2304) (hj : j.val = 256 + r.val) (d : Fin 128) :
    valAt x2 x3 h d j = lrow x2 h r d := by
  unfold valAt
  rw [dif_neg (by omega)]
  simp only [show ∀ p, (⟨j.val - 256, p⟩ : Fin 2048) = r from fun p => Fin.ext (by dsimp only; omega)]

theorem vL_apply (h : Fin 2) (j : Fin 2304) (d : Fin 128) :
    View.canon (vL x2 x3) (Idealize.ShloMosaic.ix3 h j ⟨d.val, by omega⟩) = valAt x2 x3 h d j := by
  have hc := vL_cover x2 x3 (Idealize.ShloMosaic.ix3 h j ⟨d.val, by omega⟩)
  unfold vL at hc ⊢
  canon_tiles x w using hc
  all_goals
    clear hc
    obtain ⟨a, r, e, rfl⟩ : ∃ a r e, x = Idealize.ShloMosaic.ix3 a r e := ⟨_, _, _, Idealize.ShloMosaic.eq_ix3 x⟩
    obtain rfl : a = 0 := Subsingleton.elim _ _
    have ee : e = ⟨d.val, d.isLt.trans (by norm_num)⟩ := (Fin.ext w2).symm
    subst ee
  · obtain rfl : h = 1 := Fin.ext w0
    rw [v21_apply, valAt_hi (r := r) (hj := show j.val = 256 + r.val from w1)]
    exact congrFun (ld2_1 x2 r) d
  · obtain rfl : h = 1 := Fin.ext w0
    rw [v20_apply, valAt_lo (r := r) (hj := show j.val = r.val from w1)]
    exact congrFun (ld3_1 x3 r) d
  · obtain rfl : h = 0 := Fin.ext w0
    rw [v21_apply, valAt_hi (r := r) (hj := show j.val = 256 + r.val from w1)]
    exact congrFun (ld2_0 x2 r) d
  · obtain rfl : h = 0 := Fin.ext w0
    rw [v20_apply, valAt_lo (r := r) (hj := show j.val = r.val from w1)]
    exact congrFun (ld3_0 x3 r) d

theorem vL_one (h : Fin 2) (j : Fin 2304) :
    View.canon (vL x2 x3) (Idealize.ShloMosaic.ix3 h j 128) = 1 := by
  have hc := vL_cover x2 x3 (Idealize.ShloMosaic.ix3 h j 128)
  unfold vL at hc ⊢
  canon_tiles x w using hc
  all_goals
    clear hc
    obtain ⟨a, r, e, rfl⟩ : ∃ a r e, x = Idealize.ShloMosaic.ix3 a r e := ⟨_, _, _, Idealize.ShloMosaic.eq_ix3 x⟩
    obtain rfl : a = 0 := Subsingleton.elim _ _
    obtain rfl : (128 : Fin 256) = e := Fin.ext w2
  · exact v21_one _ r
  · exact v20_one _ r
  · exact v21_one _ r
  · exact v20_one _ r

end

/-- The two halves of two stacked query heads. -/
theorem stk_lo (q0 q1 : Vec Ideal S1x1x512x128 .bf16) (r : Fin 512) (p : r.val < 1024) :
    stk q0 q1 ⟨r.val, p⟩ = fun d => q0 (Idealize.ShloMosaic.ix4 0 0 r d) := by
  funext d
  unfold stk
  rw [dif_pos r.isLt]

theorem stk_hi (q0 q1 : Vec Ideal S1x1x512x128 .bf16) (r : Fin 512) (p : 512 + r.val < 1024) :
    stk q0 q1 ⟨512 + r.val, p⟩ = fun d => q1 (Idealize.ShloMosaic.ix4 0 0 r d) := by
  funext d
  unfold stk
  rw [dif_neg (by dsimp only; omega)]
  simp only [show ∀ p, (⟨512 + r.val - 512, p⟩ : Fin 512) = r from fun p => Fin.ext (by dsimp only; omega)]

/-- A head of a block of query or gate rows. -/
theorem hd0_apply (x : Vec Ideal S1x4x512x128 .bf16) (r : Fin 512) (d : Fin 128) :
    hd0 x (Idealize.ShloMosaic.ix4 0 0 r d) = x (Idealize.ShloMosaic.ix4 0 0 r d) := by
  unfold hd0
  pointwise
theorem hd1_apply (x : Vec Ideal S1x4x512x128 .bf16) (r : Fin 512) (d : Fin 128) :
    hd1 x (Idealize.ShloMosaic.ix4 0 0 r d) = x (Idealize.ShloMosaic.ix4 0 1 r d) := by
  unfold hd1
  pointwise
theorem hd2_apply (x : Vec Ideal S1x4x512x128 .bf16) (r : Fin 512) (d : Fin 128) :
    hd2 x (Idealize.ShloMosaic.ix4 0 0 r d) = x (Idealize.ShloMosaic.ix4 0 2 r d) := by
  unfold hd2
  pointwise
theorem hd3_apply (x : Vec Ideal S1x4x512x128 .bf16) (r : Fin 512) (d : Fin 128) :
    hd3 x (Idealize.ShloMosaic.ix4 0 0 r d) = x (Idealize.ShloMosaic.ix4 0 3 r d) := by
  unfold hd3
  pointwise

/-- A point's output at row `r`, lane `d` of head `h`: the weighted sum over the sum of weights, gated. -/
theorem outL_apply (K : Vec Ideal S2x2304x128 .bf16) (V : Vec Ideal S2x2304x256 .bf16)
    (qs : Fin 4 → Vec Ideal S1x1x512x128 .bf16) (x6 : Vec Ideal S1x4x512x128 .bf16) (r l : Fin 512)
    (h : Fin 4) (k : Fin 2) (d : Fin 128) (hh : h.val = l.val / 128) (hk : k.val = l.val / 256) (hd : d.val = l.val % 128) :
    View.canon (outL K V (qs 0) (qs 1) (qs 2) (qs 3) x6) (Idealize.ShloMosaic.ix3 0 r l)
      = Ideal.div
          (accK (scK (fun d => qs h (Idealize.ShloMosaic.ix4 0 0 r d)) fun j d => K (Idealize.ShloMosaic.ix3 k j d))
            fun j => V (Idealize.ShloMosaic.ix3 k j ⟨d.val, by omega⟩))
          (accK (scK (fun d => qs h (Idealize.ShloMosaic.ix4 0 0 r d)) fun j d => K (Idealize.ShloMosaic.ix3 k j d))
            fun j => V (Idealize.ShloMosaic.ix3 k j 128))
        * silu (x6 (Idealize.ShloMosaic.ix4 0 h r d)) := by
  have hc := outL_cover K V (qs 0) (qs 1) (qs 2) (qs 3) x6 (Idealize.ShloMosaic.ix3 0 r l)
  unfold outL at hc ⊢
  canon_tiles x w using hc
  all_goals
    clear hc
    obtain ⟨a, r', e, rfl⟩ : ∃ a r e, x = Idealize.ShloMosaic.ix3 a r e := ⟨_, _, _, Idealize.ShloMosaic.eq_ix3 x⟩
    obtain rfl : a = 0 := Subsingleton.elim _ _
    obtain rfl : r = r' := Fin.ext w1
    have he : e.val < 128 := e.isLt
  · have w2' : l.val = 384 + e.val := w2
    obtain rfl : h = 3 := Fin.ext (by show h.val = 3; omega)
    obtain rfl : k = 1 := Fin.ext (by show k.val = 1; omega)
    obtain rfl : d = e := Fin.ext (by omega)
    rw [p62_apply, accK1_apply, accK1_apply, stk_hi, hd3_apply]
    rfl
  · have w2' : l.val = 256 + e.val := w2
    obtain rfl : h = 2 := Fin.ext (by show h.val = 2; omega)
    obtain rfl : k = 1 := Fin.ext (by show k.val = 1; omega)
    obtain rfl : d = e := Fin.ext (by omega)
    rw [p61_apply, accK1_apply, accK1_apply, stk_lo, hd2_apply]
    rfl
  · have w2' : l.val = 128 + e.val := w2
    obtain rfl : h = 1 := Fin.ext (by show h.val = 1; omega)
    obtain rfl : k = 0 := Fin.ext (by show k.val = 0; omega)
    obtain rfl : d = e := Fin.ext (by omega)
    rw [p62_apply, accK0_apply, accK0_apply, stk_hi, hd1_apply]
    rfl
  · have w2' : l.val = e.val := w2
    obtain rfl : h = 0 := Fin.ext (by show h.val = 0; omega)
    obtain rfl : k = 0 := Fin.ext (by show k.val = 0; omega)
    obtain rfl : d = e := Fin.ext (by omega)
    rw [p61_apply, accK0_apply, accK0_apply, stk_lo, hd0_apply]
    rfl

end Cert.KernelIdeal.Attn

end
-- ==== Proof.AttnValue.lean ====
/-
  The attention's value over the extended reals: the array the kernel writes is the reference's result, for arguments whose
  rotary tables and gains are finite.

  The prepared keys and values of a batch row are the reference's (`KP_apply`, `VP_apply`), the prepared queries the
  reference's times the named scale (`Qg_apply`); with these, one point's block is the reference's result at its place
  (`point`), and the points' blocks fill the array (`final`).
-/
module

public import proofs.«01_k».proof.Proof.AttnArgs
public import proofs.«01_k».proof.Proof.AttnParts

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

variable (m : (ℓ : Loc nD τ sig) → Buf (Elt Ideal) ℓ)

/-- The tables and the gains are real numbers. -/
structure Finite (c : Dev nD) : Prop where
  cos : ∀ y, Real' (A2 m c y)
  sin : ∀ y, Real' (A3 m c y)
  gq : ∀ y, Real' (A4 m c y)
  gk : ∀ y, Real' (A5 m c y)

/-- A row turned by the doubled tables as the kernel finds them is the row turned. -/
theorem turn_tables (c : Dev nD) (t : Fin cfg0.N) (y : Fin 128 → EReal) (R : Fin 2048) (d : Fin 128) :
    y d * (iblk m c 7 t : Vec Ideal S2048x128 .f32) (Idealize.ShloMosaic.ix2 R d)
      + y (mv d) * (iblk m c 8 t : Vec Ideal S2048x128 .f32) (Idealize.ShloMosaic.ix2 R d)
      = turn y (trow (A2 m c) R) (trow (A3 m c) R) d :=
  turn_eq y (trow (A2 m c) R) (trow (A3 m c) R)
    (fun d => (iblk m c 7 t : Vec Ideal S2048x128 .f32) (Idealize.ShloMosaic.ix2 R d))
    (fun d => (iblk m c 8 t : Vec Ideal S2048x128 .f32) (Idealize.ShloMosaic.ix2 R d)) d (mv d)
    (by unfold mv; dsimp only; omega) (fun d => blk7 m c t R d) (fun d => blk8 m c t R d)

theorem gain9 (c : Dev nD) (t : Fin cfg0.N) : gain (iblk m c 9 t) = grow (A4 m c) := funext fun d => blk9 m c t d
theorem gain10 (c : Dev nD) (t : Fin cfg0.N) : gain (iblk m c 10 t) = grow (A5 m c) := funext fun d => blk10 m c t d

section
variable (c : Dev nD) (t : Fin cfg0.N) (b : Fin 8) (hb : b.val = t.val / 4)
include hb

theorem first_b : b.val = (first t).val / 4 := by
  unfold first
  dsimp only
  omega

theorem KP_apply (k : Fin 2) (j : Fin 2304) (d : Fin 128) :
    KP m c t (Idealize.ShloMosaic.ix3 k j d) = Kr (A0 m c) (A1 m c) (A2 m c) (A3 m c) (A5 m c) b k j d := by
  have hf := first_b t b hb
  unfold KP
  rw [kL_apply]
  unfold keyAt Kr
  rw [gain10]
  split
  · exact congrArg (fun x => nrm x (grow (A5 m c)) d) (funext fun e => blk3 m c (first t) b hf k _ e)
  · rw [show lrow (iblk m c 2 (first t)) k ⟨j.val - 256, by omega⟩ = xrow (A0 m c) b ⟨4 + k.val, by omega⟩ ⟨j.val - 256, by omega⟩
      from funext fun e => blk2 m c (first t) b hf k _ e]
    exact turn_tables m c (first t) _ _ d

theorem VP_apply (k : Fin 2) (j : Fin 2304) (d : Fin 128) :
    VP m c t (Idealize.ShloMosaic.ix3 k j ⟨d.val, by omega⟩) = Vr (A0 m c) (A1 m c) b k d j := by
  have hf := first_b t b hb
  unfold VP
  rw [vL_apply]
  unfold valAt Vr
  split
  · exact blk5 m c (first t) b hf k _ d
  · exact blk4 m c (first t) b hf k _ d
end

/-- A query head as a point uses it, the head picked by `hd`. -/
def Qg (hd : Vec Ideal S1x4x512x128 .bf16 → Vec Ideal S1x1x512x128 .bf16) (c : Dev nD) (t : Fin cfg0.N) :
    Vec Ideal S1x1x512x128 .bf16 :=
  if t.val % 4 = 0 then qh (rows0 (iblk m c 7 t)) (rows0 (iblk m c 8 t)) (hd (iblk m c 0 t)) (iblk m c 9 t)
  else qh (rowsN (grid0.coords (prev t)) (iblk m c 7 (prev t))) (rowsN (grid0.coords (prev t)) (iblk m c 8 (prev t)))
    (hd (iblk m c 1 (prev t))) (iblk m c 9 (prev t))

theorem rows0_apply (x : Vec Ideal S2048x128 .f32) (r : Fin 512) (d : Fin 128) (R : Fin 2048) (hR : R.val = r.val) :
    rows0 x (Idealize.ShloMosaic.ix2 r d) = x (Idealize.ShloMosaic.ix2 R d) := by
  obtain rfl : R = ⟨r.val, r.isLt.trans (by norm_num)⟩ := Fin.ext hR
  unfold rows0
  pointwise

theorem rowsN_apply (t : Fin cfg0.N) (x : Vec Ideal S2048x128 .f32) (r : Fin 512) (d : Fin 128) (R : Fin 2048)
    (hR : R.val = 512 * min (t.val % 4 + 1) 3 + r.val) :
    rowsN (grid0.coords t) x (Idealize.ShloMosaic.ix2 r d) = x (Idealize.ShloMosaic.ix2 R d) := by
  have h5 := off5 t
  unfold rowsN
  rw [View.ld_apply]
  refine congrArg x (funext fun a => Fin.ext ?_)
  match a with
  | ⟨0, _⟩ => show k0_off5 (grid0.coords t) 0 + 1 * r.val = R.val; rw [h5]; show 512 * min (t.val % 4 + 1) 3 + 1 * r.val = R.val; omega
  | ⟨1, _⟩ => show k0_off5 (grid0.coords t) 1 + 1 * d.val = d.val; rw [h5]; show 0 + 1 * d.val = d.val; omega

/-- A prepared query is the reference's times the named scale. -/
theorem Qg_apply (hd : Vec Ideal S1x4x512x128 .bf16 → Vec Ideal S1x1x512x128 .bf16) (h : Fin 4)
    (hhd : ∀ x r d, hd x (Idealize.ShloMosaic.ix4 0 0 r d) = x (Idealize.ShloMosaic.ix4 0 h r d))
    (c : Dev nD) (t : Fin cfg0.N) (b : Fin 8) (hb : b.val = t.val / 4) (r : Fin 512) (R : Fin 2048)
    (hR : R.val = 512 * (t.val % 4) + r.val) (d : Fin 128) :
    Qg m hd c t (Idealize.ShloMosaic.ix4 0 0 r d)
      = Qr (A0 m c) (A2 m c) (A3 m c) (A4 m c) b h R d * kap := by
  unfold Qg Qr
  split
  · rename_i h0
    rw [qh_apply, rows0_apply _ r d R (by omega), rows0_apply _ r d R (by omega),
      show (fun d => hd (iblk m c 0 t) (Idealize.ShloMosaic.ix4 0 0 r d)) = xrow (A0 m c) b ⟨h.val, by omega⟩ R from
        funext fun e => (hhd _ r e).trans (blk0 m c t b hb h r e R hR),
      show (fun d => (iblk m c 9 t : Vec Ideal S1x128 .f32) (Idealize.ShloMosaic.ix2 0 d)) = grow (A4 m c) from gain9 m c t,
      turn_tables m c t]
  · rename_i h0
    have hp : (prev t).val = t.val - 1 := rfl
    rw [qh_apply, rowsN_apply (prev t) _ r d R (by omega), rowsN_apply (prev t) _ r d R (by omega),
      show (fun d => hd (iblk m c 1 (prev t)) (Idealize.ShloMosaic.ix4 0 0 r d)) = xrow (A0 m c) b ⟨h.val, by omega⟩ R from
        funext fun e => (hhd _ r e).trans (blk1 m c (prev t) b (by omega) h r e R (by omega)),
      show (fun d => (iblk m c 9 (prev t) : Vec Ideal S1x128 .f32) (Idealize.ShloMosaic.ix2 0 d)) = grow (A4 m c) from gain9 m c (prev t),
      turn_tables m c (prev t)]

/-- The four query heads of a point. -/
def qs (c : Dev nD) (t : Fin cfg0.N) : Fin 4 → Vec Ideal S1x1x512x128 .bf16 := ![Q0 m c t, Q1 m c t, Q2 m c t, Q3 m c t]

theorem qs_apply (c : Dev nD) (t : Fin cfg0.N) (b : Fin 8) (hb : b.val = t.val / 4) (r : Fin 512) (R : Fin 2048)
    (hR : R.val = 512 * (t.val % 4) + r.val) (h : Fin 4) (d : Fin 128) :
    qs m c t h (Idealize.ShloMosaic.ix4 0 0 r d) = Qr (A0 m c) (A2 m c) (A3 m c) (A4 m c) b h R d * kap := by
  match h with
  | 0 => exact Qg_apply m hd0 0 hd0_apply c t b hb r R hR d
  | 1 => exact Qg_apply m hd1 1 hd1_apply c t b hb r R hR d
  | 2 => exact Qg_apply m hd2 2 hd2_apply c t b hb r R hR d
  | 3 => exact Qg_apply m hd3 3 hd3_apply c t b hb r R hR d

theorem Qr_real (c : Dev nD) (H : Finite m c) (b : Fin 8) (h : Fin 4) (R : Fin 2048) (d : Fin 128) :
    Real' (Qr (A0 m c) (A2 m c) (A3 m c) (A4 m c) b h R d) :=
  turn_real _ _ _ (fun d => nrm_real _ _ (fun d => H.gq _) d) (fun d => H.cos _) (fun d => H.sin _) d

theorem Kr_real (c : Dev nD) (H : Finite m c) (b : Fin 8) (k : Fin 2) (j : Fin 2304) (d : Fin 128) :
    Real' (Kr (A0 m c) (A1 m c) (A2 m c) (A3 m c) (A5 m c) b k j d) := by
  unfold Kr
  split
  · exact nrm_real _ _ (fun d => H.gk _) d
  · exact turn_real _ _ _ (fun d => nrm_real _ _ (fun d => H.gk _) d) (fun d => H.cos _) (fun d => H.sin _) d

/-- The result as the reference states it, a function of the six arguments. -/
def result (c : Dev nD) : (⟨S8x2048x512, .bf16⟩ : BufTy).Contents (Elt Ideal) :=
  Cert.ReferenceIdeal.Read.val_main_v112 (F := Ideal) (A0 m c) (A1 m c) (A2 m c) (A3 m c) (A4 m c) (A5 m c)

/-- A point's output block, element by element, is the reference's result at the element's place in the array. -/
theorem point (c : Dev nD) (H : Finite m c) (t : Fin cfg0.N) (y : S1x512x512.Idx) :
    OUT m c t y = result m c (((cfg0.win 11).blk t).view.emb y) := by
  obtain ⟨b, R, l, e⟩ : ∃ (b : Fin 8) (R : Fin 2048) (l : Fin 512),
      ((cfg0.win 11).blk t).view.emb y = Idealize.ShloMosaic.ix3 b R l := ⟨_, _, _, Idealize.ShloMosaic.eq_ix3 _⟩
  obtain ⟨y0, r, y2, ey⟩ : ∃ (y0 : Fin 1) (y1 : Fin 512) (y2 : Fin 512),
      y = Idealize.ShloMosaic.ix3 y0 y1 y2 := ⟨_, _, _, Idealize.ShloMosaic.eq_ix3 _⟩
  have hy0 : y0 = 0 := Subsingleton.elim _ _
  subst hy0 ey
  have e0 := congrArg (fun i => (i 0).val) e
  have e1 := congrArg (fun i => (i 1).val) e
  have e2 := congrArg (fun i => (i 2).val) e
  rw [e]
  clear e
  blk_simp [idx] at e0 e1 e2
  have hb : b.val = t.val / 4 := by omega
  have hR : R.val = 512 * (t.val % 4) + r.val := by omega
  obtain rfl : y2 = l := Fin.ext (by omega)
  clear e0 e1 e2
  unfold result
  obtain ⟨h, hh⟩ : ∃ h : Fin 4, h.val = y2.val / 128 := ⟨⟨y2.val / 128, by omega⟩, rfl⟩
  obtain ⟨k, hk⟩ : ∃ k : Fin 2, k.val = y2.val / 256 := ⟨⟨y2.val / 256, by omega⟩, rfl⟩
  obtain ⟨d, hd⟩ : ∃ d : Fin 128, d.val = y2.val % 128 := ⟨⟨y2.val % 128, by omega⟩, rfl⟩
  rw [ref_apply (hh := hh) (hk := hk) (hd := hd)]
  refine (outL_apply (KP m c t) (VP m c t) (qs m c t) (iblk m c 6 t) r y2 h k d hh hk hd).trans ?_
  rw [show (fun d => qs m c t h (Idealize.ShloMosaic.ix4 0 0 r d)) = fun d => Qr (A0 m c) (A2 m c) (A3 m c) (A4 m c) b h R d * kap from
      funext fun d => qs_apply m c t b hb r R hR h d,
    show (fun j d => KP m c t (Idealize.ShloMosaic.ix3 k j d)) = Kr (A0 m c) (A1 m c) (A2 m c) (A3 m c) (A5 m c) b k from
      funext fun j => funext fun d => KP_apply m c t b hb k j d,
    show (fun j => VP m c t (Idealize.ShloMosaic.ix3 k j ⟨d.val, by omega⟩)) = Vr (A0 m c) (A1 m c) b k d from
      funext fun j => VP_apply m c t b hb k j d,
    show (fun j => VP m c t (Idealize.ShloMosaic.ix3 k j 128)) = fun _ => 1 from funext fun j => vL_one _ _ k j,
    attend _ _ _ (Qr_real m c H b h R) (Kr_real m c H b k), blk6 m c t b hb h r d R hR]
  rfl

/-- The output array after the run is the reference's result. -/
theorem final (c : Dev nD) (H : Finite m c) : (dats m 0 c).arrAt 11 cfg0.N = result m c := by
  refine (dats m 0 c).arrAt_eq_of_covers 11 _ (by decide +kernel) fun t hf y => ?_
  blk_simp
  rw [after11]
  exact point m c H t y

/-- The run ends with the output array named. -/
theorem run_out (ρ : Dev nD → PrngReg) : θ_run defs (onTc (τ := τ) (main (F := Ideal))) ⟨m, fun _ => 0, ρ⟩ fun r => ∀ c : Dev nD,
    r.2.mem ((c.tc : Thread nD τ).loc main_v5) = (dats m 0 c).arrAt 11 cfg0.N :=
  (θ_run defs _ _).mono (fun r h c => (h c).1 11) (run_main m ρ)

/-- The run ends with the output array named, and the arguments as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v5) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨h.1 c, h.2 c⟩)
    (θ_run_and (run_out m ρ) (frame_of m ρ (dats m) (A_eq m) (run_main m ρ)))

end Cert.KernelIdeal.Attn

end
-- ==== Proof.AttnPre.lean ====
/-
  What the precondition says: the rotary tables and the gains are real numbers.
-/
module

public import proofs.«01_k».proof.Pre_finite_tables
public import proofs.«01_k».proof.Proof.AttnMath
public import Idealize.ShloMosaic.Lib.ReduceAll
public import Idealize.ShloMosaic.Lib.Decide

@[expose] public section

noncomputable section

namespace Cert.Attn

open Cert.Pre_finite_tables Idealize.ShloMosaic

/-- The side conditions of the precondition's operations. -/
instance preFacts : Cert.Pre_finite_tables.Facts where
  bcast_S_S2048x64 := by decide
  reducesTo_S2048x64_S_d0_1 := by decide
  h_S_ := by decide
  bcast_S_S128 := by decide
  reducesTo_S128_S_d0 := by decide

instance : Subsingleton (Cert.Pre_finite_tables.S_).Idx := ⟨fun _ _ => funext fun a => a.elim0⟩

/-- An extended real whose magnitude is below infinity is a real number. -/
theorem real_of_lt (x : EReal) (h : BitVec.ofBool (decide (max x (-x) < Ideal.ofBits .f32 0x7F800000#32)) = 1#1) :
    Real' x := by
  have ht : Ideal.ofBits .f32 0x7F800000#32 = ⊤ := by simp [Ideal.ofBits, Ideal.ieee]
  rw [ht] at h
  have hx : max x (-x) < ⊤ := by
    by_contra hn
    rw [decide_eq_false hn] at h
    exact absurd h (by decide)
  induction x with
  | bot => simp at hx
  | top => simp at hx
  | coe r => exact ⟨r, rfl⟩

theorem pre_real (a0 : FVec Ideal S8x56x2048x128 .bf16) (a1 : FVec Ideal S8x56x256x128 .bf16) (a2 a3 : FVec Ideal S2048x64 .f32)
    (a4 a5 : FVec Ideal S128 .f32) (h : fn (F := Ideal) a0 a1 a2 a3 a4 a5 = fun _ => 1#1) :
    (∀ y, Real' (a2 y)) ∧ (∀ y, Real' (a3 y)) ∧ (∀ y, Real' (a4 y)) ∧ ∀ y, Real' (a5 y) := by
  have e := congrFun h (fun a => a.elim0 : S_.Idx)
  unfold fn fn_part1 at e
  dsimp only at e
  obtain ⟨e, e5⟩ := IntOp.andi_eq_one.1 e
  obtain ⟨e, e4⟩ := IntOp.andi_eq_one.1 e
  obtain ⟨e2, e3⟩ := IntOp.andi_eq_one.1 e
  refine ⟨fun y => ?_, fun y => ?_, fun y => ?_, fun y => ?_⟩
  · exact real_of_lt _ (Host.reduce_andi_all _ _ _ _ _ e2 y)
  · exact real_of_lt _ (Host.reduce_andi_all _ _ _ _ _ e3 y)
  · exact real_of_lt _ (Host.reduce_andi_all _ _ _ _ _ e4 y)
  · exact real_of_lt _ (Host.reduce_andi_all _ _ _ _ _ e5 y)

end Cert.Attn

end
-- ==== Proof.InprojOut.lean ====
/-
  The input projection's kernel, one grid point at a time, over the extended reals: what a point leaves in its output
  block and in the scratch it carries.

  The first of a run's four points normalises its rows (`hrows`) and stores them in the scratch; every point
  multiplies the scratch with its block of the weights and stores the product, 128 columns at a time, into the
  fourteen slices of its output block. So the block's element (0, h, r, l) is the sum over d of
  scratch (r, d) · weights (0, 128·h + l, d) (`out_A_apply`, `out_B_apply`).
-/
module

public import proofs.«01_k».proof.Proof.Gen.InprojIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Idealize.ShloMosaic.ValueIdx

/-- The normalised and modulated rows that a run's first point stores: `x · rsqrt(mean(x²) + ε) · (gain · (1 + scale)) +
    shift`, the shift and the scale read from the batch's row of the modulation. -/
def hrows (i : grid0.Coords) (hc0 : cond0_0 i) (x0 : Vec Ideal S1x1024x2048 .f32) (x1 : Vec Ideal S16x6144 .f32)
    (x2 : Vec Ideal S1x2048 .f32) : Vec Ideal S1024x2048 .bf16 :=
  k0_pay5 (View.ld x1 (Rect.unit (s := S16x6144) (k0_off1 i) S1x2048.size (k0_off1_inb i hc0))) x2
    (View.ld x1 (Rect.unit (s := S16x6144) (k0_off2 i) S1x2048.size (k0_off2_inb i hc0))) x0

section
variable (c : Dev nD) (i : grid0.Coords) (arg3 : Memref sig .tc .vmem S1x1024x2048 .f32) (harg3 : arg3.IsWhole)
  (arg4 : Memref sig .tc .vmem S16x6144 .f32) (harg4 : arg4.IsWhole) (arg5 : Memref sig .tc .vmem S1x2048 .f32)
  (harg5 : arg5.IsWhole) (arg6 : Memref sig .tc .vmem S1x1792x2048 .bf16) (harg6 : arg6.IsWhole)
  (arg7 : Memref sig .tc .vmem S1x14x1024x128 .bf16) (harg7 : arg7.IsWhole)
  (arg8 : Memref sig .tc .vmem S1024x2048 .bf16) (harg8 : arg8.IsWhole)
  (x0 : Vec Ideal S1x1024x2048 .f32) (x1 : Vec Ideal S16x6144 .f32) (x2 : Vec Ideal S1x2048 .f32)
  (x3 : Vec Ideal S1x1792x2048 .bf16)

/-- The scratch after a run's first point: the normalised rows. -/
theorem sout_A (hc0 : cond0_0 i) :
    sout0_A_0 c i arg3 harg3 arg4 harg4 arg5 harg5 arg6 harg6 arg7 harg7 arg8 harg8 hc0 x0 x1 x2 x3
      = hrows i hc0 x0 x1 x2 := by
  unfold hrows
  frame_out

/-- A later point carries the scratch. -/
theorem sout_B (hc0 : ¬cond0_0 i) (xs : Vec Ideal S1024x2048 .bf16) :
    sout0_B_0 c i arg3 harg3 arg4 harg4 arg5 harg5 arg6 harg6 arg7 harg7 arg8 harg8 hc0 x0 x1 x2 x3 xs = xs := by
  unfold sout0_B_0
  try rfl

/-- The output block's element (0, h, r, l) from the rows `hh` and the weights' block `w`. -/
def prod (hh : Vec Ideal S1024x2048 .bf16) (w : Vec Ideal S1x1792x2048 .bf16) (y : S1x14x1024x128.Idx) : EReal :=
  ∑ d : Fin 2048, hh (Idealize.ShloMosaic.ix2 (y 2) d) * w (Idealize.ShloMosaic.ix3 0 (⟨128 * (y 1).val + (y 3).val, by
    have h1 : (y 1).val < 14 := (y 1).isLt
    have h3 : (y 3).val < 128 := (y 3).isLt
    omega⟩ : Fin 1792) d)

/-- A later point's output block, from the carried rows. -/
theorem out_B_apply (hc0 : ¬cond0_0 i) (xs : Vec Ideal S1024x2048 .bf16) (y : S1x14x1024x128.Idx) :
    out0_B_4 c i arg3 harg3 arg4 harg4 arg5 harg5 arg6 harg6 arg7 harg7 arg8 harg8 hc0 x0 x1 x2 x3 xs y
      = prod xs x3 y := by
  frame_out
  canon_tiles x h
  all_goals
    unfold prod
    unfold_payloads
    pointwise
    blk_point

/-- A first point's output block, from the rows it has just stored. -/
theorem out_A_apply (hc0 : cond0_0 i) (y : S1x14x1024x128.Idx) :
    out0_A_4 c i arg3 harg3 arg4 harg4 arg5 harg5 arg6 harg6 arg7 harg7 arg8 harg8 hc0 x0 x1 x2 x3 y
      = prod (hrows i hc0 x0 x1 x2) x3 y := by
  frame_out
  generalize hh : hrows i hc0 x0 x1 x2 = X
  unfold hrows at hh
  rw [hh]
  canon_tiles x h
  all_goals
    unfold prod
    unfold_payloads
    pointwise
    blk_point
end

variable (m : (ℓ : Loc nD τ sig) → Buf (Elt Ideal) ℓ)

/-- A point's first point of its run. -/
def first (t : Fin cfg0.N) : Fin cfg0.N := ⟨4 * (t.val / 4), Pipeline.run_start_lt t⟩

theorem first_cond (t : Fin cfg0.N) : cond0_0 (grid0.coords (first t)) :=
  (hcond0_0 (first t)).mpr (Nat.mul_mod_right 4 _)

/-- The normalised rows of the run that `t` belongs to. -/
def rows (c : Dev nD) (t : Fin cfg0.N) : Vec Ideal S1024x2048 .bf16 :=
  hrows (grid0.coords (first t)) (first_cond t) (iblk m c 0 (first t)) (iblk m c 1 (first t)) (iblk m c 2 (first t))

theorem first_eq (t : Fin cfg0.N) (h : t.val % 4 = 0) : first t = t := by
  apply Fin.ext
  show 4 * (t.val / 4) = t.val
  omega

theorem rows_first (c : Dev nD) (t : Fin cfg0.N) (h : t.val % 4 = 0) :
    rows m c t = hrows (grid0.coords t) ((hcond0_0 t).mpr h) (iblk m c 0 t) (iblk m c 1 t) (iblk m c 2 t) := by
  unfold rows
  have e := first_eq t h
  generalize first_cond t = hc
  revert hc
  rw [e]
  intro hc
  rfl

theorem rows_congr (c : Dev nD) (t u : Fin cfg0.N) (h : first t = first u) : rows m c t = rows m c u := by
  unfold rows
  generalize first_cond t = hc
  revert hc
  rw [h]
  intro hc
  rfl

/-- The scratch after point `t`: its run's rows. -/
theorem scratch_eq (c : Dev nD) (t : Fin cfg0.N) : (outsAt0 m c t.val t.isLt).2 = rows m c t := by
  have h := Pipeline.eq_of_write_hold (fun n h => (outsAt0 m c n h).2) 4 (rows m c)
    (fun t h0 => by
      rw [rows_first m c t h0]
      rw [outsAt0_A m c t h0]
      dsimp only
      rw [sout_A])
    (fun t h0 => by
      rw [outsAt0_B m c t h0]
      dsimp only
      rw [sout_B]) t
  refine h.trans ?_
  exact rows_congr m c _ _ (by apply Fin.ext; show 4 * (4 * (t.val / 4) / 4) = 4 * (t.val / 4); omega)

/-- The output block after point `t`: its run's rows times its block of the weights. -/
theorem out_eq (c : Dev nD) (t : Fin cfg0.N) (y : S1x14x1024x128.Idx) :
    (outsAt0 m c t.val t.isLt).1 y = prod (rows m c t) (iblk m c 3 t) y := by
  by_cases h0 : t.val % 4 = 0
  · rw [rows_first m c t h0, outsAt0_A m c t h0]
    dsimp only
    rw [out_A_apply]
  · rw [outsAt0_B m c t h0]
    dsimp only
    rw [out_B_apply]
    rw [scratch_eq m c ⟨t.val - 1, Nat.lt_of_le_of_lt (Nat.sub_le _ _) t.isLt⟩,
      rows_congr m c _ t (by apply Fin.ext; show 4 * ((t.val - 1) / 4) = 4 * (t.val / 4); omega)]

end Cert.InprojIdeal.Value

end
-- ==== Proof.InprojValue.lean ====
/-
  The input projection's value over the extended reals: the array the kernel writes is the reference's result.

  A grid point's output block is its run's rows times its block of the weights (`out_eq`); read at an element, the rows
  and the weights are the arguments' (`point`), and the reference's element is the same sum: the kernel multiplies
  the normalised row by `gain · (1 + scale)`, the reference by the gain and then by `1 + scale`. The points' blocks
  fill the array, so the arrays agree (`final`).
-/
module

public import proofs.«01_k».proof.Proof.InprojOut
public import proofs.«01_k».proof.Proof.Gen.InprojReferenceIdeal.Read
public import Idealize.ShloMosaic.Lib.Claim

@[expose] public section

set_option maxRecDepth 16384

noncomputable section

namespace Cert.InprojIdeal.Value

open Cert.InprojIdeal Cert.InprojIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- Where each window's block stands at a point: rows and batch by the point's first two coordinates, weights and output
    columns by the third. -/
theorem idx : ∀ t : Fin cfg0.N, win0_0.index t = ![t.val / 8, t.val / 4 % 2, 0] ∧ win0_1.index t = ![0, 0]
    ∧ win0_2.index t = ![0, 0] ∧ win0_3.index t = ![0, t.val % 4, 0]
    ∧ win0_4.index t = ![t.val / 8, t.val % 4, t.val / 4 % 2, 0] := by
  decide +kernel

/-- The modulation's row that a point's run reads. -/
theorem off1 : ∀ t : Fin cfg0.N, k0_off1 (grid0.coords t) = ![t.val / 8, 0] := by decide +kernel
theorem off2 : ∀ t : Fin cfg0.N, k0_off2 (grid0.coords t) = ![t.val / 8, 2048] := by decide +kernel

/-- The result as the reference states it, a function of the four arguments. -/
def result (c : Dev nD) : (⟨S8x56x2048x128, .bf16⟩ : BufTy).Contents (Elt Ideal) :=
  Cert.InprojReferenceIdeal.Read.val_main_v30 (F := Ideal) (m ((c : Thread nD τ).loc main_arg0))
    (m ((c : Thread nD τ).loc main_arg1)) (m ((c : Thread nD τ).loc main_arg2)) (m ((c : Thread nD τ).loc main_arg3))

open Cert.InprojReferenceIdeal.Read in
/-- The reference's element (b, h, r, l): the normalised, modulated row r of batch b times the weights' row 128·h + l. -/
theorem ref_apply (x0 : Vec Ideal S8x2048x2048 .f32) (x1 : Vec Ideal S16x6144 .f32) (x2 : Vec Ideal S1x2048 .f32)
    (x3 : Vec Ideal S2x7168x2048 .bf16) (b : Fin 8) (h : Fin 56) (r : Fin 2048) (l : Fin 128) :
    val_main_v30 (F := Ideal) x0 x1 x2 x3 (Idealize.ShloMosaic.ix4 b h r l)
      = ∑ d : Fin 2048, (x0 (Idealize.ShloMosaic.ix3 b r d)
          * Ideal.rsqrt (Ideal.div (∑ k : Fin 2048, x0 (Idealize.ShloMosaic.ix3 b r k)
              * x0 (Idealize.ShloMosaic.ix3 b r k)) (Ideal.ofBits .f32 0x45000000#32)
            + Ideal.ofBits .f32 0x358637BD#32)
          * x2 (Idealize.ShloMosaic.ix2 0 d)
          * (1 + x1 (Idealize.ShloMosaic.ix2 ⟨b.val, by omega⟩ ⟨2048 + d.val, by omega⟩))
          + x1 (Idealize.ShloMosaic.ix2 ⟨b.val, by omega⟩ ⟨d.val, by omega⟩))
        * x3 (Idealize.ShloMosaic.ix3 0 ⟨h.val * 128 + l.val, by omega⟩ d) := by
  pointwise [val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2]

/-- A point's output block, element by element, is the reference's result at the element's place in the array. -/
theorem point (c : Dev nD) (t : Fin cfg0.N) (y : S1x14x1024x128.Idx) :
    prod (rows m c t) (iblk m c 3 t) y = result m c (((cfg0.win 4).blk t).view.emb y) := by
  obtain ⟨b, h, r, l, e⟩ : ∃ (b : Fin 8) (h : Fin 56) (r : Fin 2048) (l : Fin 128),
      ((cfg0.win 4).blk t).view.emb y = Idealize.ShloMosaic.ix4 b h r l := ⟨_, _, _, _, Idealize.ShloMosaic.eq_ix4 _⟩
  have e0 := congrArg (fun i => (i 0).val) e
  have e1 := congrArg (fun i => (i 1).val) e
  have e2 := congrArg (fun i => (i 2).val) e
  have e3 := congrArg (fun i => (i 3).val) e
  rw [e]
  clear e
  blk_simp [idx] at e0 e1 e2 e3
  unfold result
  rw [ref_apply]
  unfold prod rows hrows
  pointwise [k0_pay5]
  simp only [← mul_assoc]
  have ef : (first t).val = 4 * (t.val / 4) := rfl
  reads_congr
  all_goals blk_ext! [iblk, V, idx, off1, off2]
  all_goals omega

/-- The output array after the run is the reference's result. -/
theorem final (c : Dev nD) : (dats m 0 c).arrAt 4 cfg0.N = result m c := by
  refine (dats m 0 c).arrAt_eq_of_covers 4 _ (by decide +kernel) fun t hf y => ?_
  blk_simp
  rw [after0_4]
  exact (out_eq m c t y).trans (point m c t y)

end Cert.InprojIdeal.Value

end
-- ==== Proof.OutprojValue.lean ====
/-
  The output projection's value over the extended reals: the array the kernel writes is the reference's result.

  A grid point adds the gated product of its 512 rows of the four branches with the weights' four blocks of 512 rows to
  its block of the stream (`out_apply`); the reference multiplies the branches, concatenated, with all 2048 rows of the
  weights at once (`ref_apply`). A sum over 2048 positions is the sum of four over 512 (`sum_quarters`), so the two agree
  at every element (`point`), and the points' blocks fill the array (`final`).
-/
module

public import proofs.«01_k».proof.Proof.Gen.OutprojIdeal.Value
public import proofs.«01_k».proof.Proof.Gen.OutprojReferenceIdeal.Read
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.OutprojIdeal.Value

open Cert.OutprojIdeal Cert.OutprojIdeal.Gen Idealize.ShloMosaic Idealize.ShloMosaic.TcCoe Idealize.SL.Sem
open Idealize.ShloMosaic.Pipeline (Dat)
open Idealize.ShloMosaic.ValueIdx

section
variable (c : Dev nD) (i : grid0.Coords)
  (arg2 : Memref sig .tc .vmem S1x512x2048 .f32) (harg2 : arg2.IsWhole)
  (arg3 : Memref sig .tc .vmem S1x512x512 .bf16) (harg3 : arg3.IsWhole)
  (arg4 : Memref sig .tc .vmem S1x512x512 .bf16) (harg4 : arg4.IsWhole)
  (arg5 : Memref sig .tc .vmem S1x512x512 .bf16) (harg5 : arg5.IsWhole)
  (arg6 : Memref sig .tc .vmem S1x512x512 .bf16) (harg6 : arg6.IsWhole)
  (arg7 : Memref sig .tc .vmem S1x4x512x2048 .bf16) (harg7 : arg7.IsWhole)
  (arg8 : Memref sig .tc .vmem S16x6144 .f32) (harg8 : arg8.IsWhole)
  (arg9 : Memref sig .tc .vmem S1x512x2048 .f32) (harg9 : arg9.IsWhole)
  (x0 : Vec Ideal S1x512x2048 .f32) (x1 x2 x3 x4 : Vec Ideal S1x512x512 .bf16)
  (x5 : Vec Ideal S1x4x512x2048 .bf16) (x6 : Vec Ideal S16x6144 .f32)

/-- One branch's rows times the weights' block for it, at row `r` and column `l`. -/
def part (x : Vec Ideal S1x512x512 .bf16) (w : Vec Ideal S1x4x512x2048 .bf16) (k : Fin 4) (r : Fin 512) (l : Fin 2048) :
    EReal :=
  ∑ d : Fin 512, x (Idealize.ShloMosaic.ix3 0 r d) * w (Idealize.ShloMosaic.ix4 0 k d l)

/-- A point's output block, element by element. -/
theorem out_apply (r : Fin 512) (l : Fin 2048) (b : Fin 16) (g : Fin 6144)
    (hb : k0_off1 i 0 = b.val) (hg : k0_off1 i 1 + l.val = g.val) :
    out0_A_7 c i arg2 harg2 arg3 harg3 arg4 harg4 arg5 harg5 arg6 harg6 arg7 harg7 arg8 harg8 arg9 harg9
        x0 x1 x2 x3 x4 x5 x6 (Idealize.ShloMosaic.ix3 0 r l)
      = x0 (Idealize.ShloMosaic.ix3 0 r l) + x6 (Idealize.ShloMosaic.ix2 b g)
        * (part x1 x5 0 r l + part x2 x5 1 r l + part x3 x5 2 r l + part x4 x5 3 r l) := by
  frame_out
  unfold part
  unfold_payloads
  pointwise
  reads_congr
  all_goals blk_ext! []
  all_goals omega
end

/-- A sum over 2048 positions, a quarter at a time. -/
theorem sum_quarters (f : Fin 2048 → EReal) :
    ∑ d, f d = (∑ d : Fin 512, f ⟨d.val, by omega⟩) + (∑ d : Fin 512, f ⟨512 + d.val, by omega⟩)
      + (∑ d : Fin 512, f ⟨1024 + d.val, by omega⟩) + ∑ d : Fin 512, f ⟨1536 + d.val, by omega⟩ := by
  refine (Fin.sum_univ_add (a := 1536) (b := 512) f).trans ?_
  refine congrArg₂ (· + ·) ?_ rfl
  refine (Fin.sum_univ_add (a := 1024) (b := 512) _).trans ?_
  refine congrArg₂ (· + ·) ?_ rfl
  exact Fin.sum_univ_add (a := 512) (b := 512) _

open Cert.OutprojReferenceIdeal.Read in
/-- The reference's element (b, r, l), its product a quarter at a time. -/
theorem ref_apply (x0 : Vec Ideal S8x2048x2048 .f32) (x1 x2 x3 x4 : Vec Ideal S8x2048x512 .bf16)
    (x5 : Vec Ideal S2x2048x2048 .f32) (x6 : Vec Ideal S16x6144 .f32) (b : Fin 8) (r l : Fin 2048) :
    val_main_v12 (F := Ideal) x0 x1 x2 x3 x4 x5 x6 (Idealize.ShloMosaic.ix3 b r l)
      = x0 (Idealize.ShloMosaic.ix3 b r l) + x6 (Idealize.ShloMosaic.ix2 ⟨b.val, by omega⟩ ⟨4096 + l.val, by omega⟩)
        * ((∑ d : Fin 512, x1 (Idealize.ShloMosaic.ix3 b r d) * x5 (Idealize.ShloMosaic.ix3 1 ⟨d.val, by omega⟩ l))
          + (∑ d : Fin 512, x2 (Idealize.ShloMosaic.ix3 b r d)
              * x5 (Idealize.ShloMosaic.ix3 1 ⟨512 + d.val, by omega⟩ l))
          + (∑ d : Fin 512, x3 (Idealize.ShloMosaic.ix3 b r d)
              * x5 (Idealize.ShloMosaic.ix3 1 ⟨1024 + d.val, by omega⟩ l))
          + ∑ d : Fin 512, x4 (Idealize.ShloMosaic.ix3 b r d)
              * x5 (Idealize.ShloMosaic.ix3 1 ⟨1536 + d.val, by omega⟩ l)) := by
  pointwise [val_main_v12, val_main_v11, val_main_v10, val_main_v9, val_main_v8, val_main_v7, val_main_v6, val_main_v5,
    val_main_v4, val_main_v3, val_main_v2, val_main_v1, val_main_v0]
  rw [sum_quarters]
  refine congrArg₂ (· + ·) rfl (congrArg₂ (· * ·) rfl
    (congrArg₂ (· + ·) (congrArg₂ (· + ·) (congrArg₂ (· + ·) ?_ ?_) ?_) ?_))
  all_goals refine Finset.sum_congr rfl fun d _ => congrArg₂ (· * ·) ?_ rfl
  · rw [dif_pos d.isLt]
  · rw [dif_neg (by dsimp only; omega), dif_pos (by dsimp only; omega)]
    blk_ext! []
    all_goals omega
  · rw [dif_neg (by dsimp only; omega), dif_neg (by dsimp only; omega), dif_pos (by dsimp only; omega)]
    blk_ext! []
    all_goals omega
  · rw [dif_neg (by dsimp only; omega), dif_neg (by dsimp only; omega), dif_neg (by dsimp only; omega)]
    blk_ext! []
    all_goals omega

variable (m : (ℓ : Loc nD τ sig) → Buf (Elt Ideal) ℓ)

/-- Where each window's block stands at a point: batch by the point's first coordinate, rows by the second. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![1, 0, 0, 0] ∧ win0_6.index t = ![0, 0]
    ∧ win0_7.index t = ![t.val / 4, t.val % 4, 0] := by
  decide +kernel

/-- The modulation's row and first column that a point reads. -/
theorem off1 : ∀ t : Fin cfg0.N, k0_off1 (grid0.coords t) = ![t.val / 4, 4096] := by decide +kernel

/-- The weights as the kernel finds them: the argument's 2048 rows as four blocks of 512. -/
theorem weights (c : Dev nD) : (V m c main_v1 : Vec Ideal S2x4x512x2048 .bf16)
    = shapeCast S2x4x512x2048 (truncf (F := Ideal) .bf16
        (m ((c : Thread nD τ).loc main_arg5) : Vec Ideal S2x2048x2048 .f32) bitsLt_bf16_f32)
        shapeCasts_S2x2048x2048_S2x4x512x2048 := by
  unfold_abbrev_sides
  after_results
  rfl

/-- Row `d` of block `k` is row `512·k + d`. -/
theorem reshape_apply (w : Vec Ideal S2x2048x2048 .f32) (e : Fin 2) (k : Fin 4) (d : Fin 512) (l : Fin 2048) :
    shapeCast S2x4x512x2048 (truncf (F := Ideal) .bf16 w bitsLt_bf16_f32) shapeCasts_S2x2048x2048_S2x4x512x2048
        (Idealize.ShloMosaic.ix4 e k d l)
      = w (Idealize.ShloMosaic.ix3 e ⟨512 * k.val + d.val, by omega⟩ l) := by
  pointwise
  try (blk_ext! []; all_goals omega)

/-- The weights' block at a point, an element at a time. -/
theorem wblk (c : Dev nD) (t : Fin cfg0.N) (k : Fin 4) (d : Fin 512) (l : Fin 2048) :
    (iblk m c 5 t : Vec Ideal S1x4x512x2048 .bf16) (Idealize.ShloMosaic.ix4 0 k d l)
      = (m ((c : Thread nD τ).loc main_arg5) : Vec Ideal S2x2048x2048 .f32)
          (Idealize.ShloMosaic.ix3 1 ⟨512 * k.val + d.val, by omega⟩ l) := by
  have h : (iblk m c 5 t : Vec Ideal S1x4x512x2048 .bf16) (Idealize.ShloMosaic.ix4 0 k d l)
      = (V m c main_v1 : Vec Ideal S2x4x512x2048 .bf16) (Idealize.ShloMosaic.ix4 1 k d l) := by
    unfold iblk
    blk_ext! [idx]
    all_goals omega
  rw [h, weights]
  exact reshape_apply _ 1 k d l

/-- The result as the reference states it, a function of the seven arguments. -/
def result (c : Dev nD) : (⟨S8x2048x2048, .f32⟩ : BufTy).Contents (Elt Ideal) :=
  Cert.OutprojReferenceIdeal.Read.val_main_v12 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- A point's output block, element by element, is the reference's result at the element's place in the array. -/
theorem point (c : Dev nD) (t : Fin cfg0.N) (y : S1x512x2048.Idx) :
    outsAt0 m c t y = result m c (((cfg0.win 7).blk t).view.emb y) := by
  obtain ⟨b, r, l, e⟩ : ∃ (b : Fin 8) (r : Fin 2048) (l : Fin 2048),
      ((cfg0.win 7).blk t).view.emb y = Idealize.ShloMosaic.ix3 b r l := ⟨_, _, _, Idealize.ShloMosaic.eq_ix3 _⟩
  obtain ⟨y0, y1, y2, ey⟩ : ∃ (y0 : Fin 1) (y1 : Fin 512) (y2 : Fin 2048),
      y = Idealize.ShloMosaic.ix3 y0 y1 y2 := ⟨_, _, _, Idealize.ShloMosaic.eq_ix3 _⟩
  have hy0 : y0 = 0 := Subsingleton.elim _ _
  subst hy0 ey
  have e0 := congrArg (fun i => (i 0).val) e
  have e1 := congrArg (fun i => (i 1).val) e
  have e2 := congrArg (fun i => (i 2).val) e
  rw [e]
  clear e
  blk_simp [idx] at e0 e1 e2
  unfold result
  rw [ref_apply]
  unfold outsAt0
  rw [out_apply (b := ⟨b.val, by omega⟩) (g := ⟨4096 + l.val, by omega⟩)]
  · unfold part
    simp only [wblk]
    reads_congr
    all_goals blk_ext! [iblk, V, idx]
    all_goals omega
  · rw [off1]; exact e0
  · rw [off1]
    show 4096 + y2.val = 4096 + l.val
    omega

/-- The output array after the run is the reference's result. -/
theorem final (c : Dev nD) : (dats m 0 c).arrAt 7 cfg0.N = result m c := by
  refine (dats m 0 c).arrAt_eq_of_covers 7 _ (by decide +kernel) fun t hf y => ?_
  blk_simp
  rw [after0_7]
  exact point m c t y

end Cert.OutprojIdeal.Value

end
-- ==== Proof.InprojCtxOut.lean ====
/-
  The context's input projection, one grid point at a time, over the extended reals: what a point leaves in its output
  block and in the scratch it carries.

  A point's block of the stream holds 256 rows of four batches. The first of a run's four points normalises them
  and stores them in the scratch, a batch at a time, as 1024 rows (`hrows`, `sout_A`); every point multiplies the scratch
  with its block of the weights and stores the product, 256 rows by 128 columns at a time, into the 56 slices of
  its output block (`prod`, `out_A_apply`, `out_B_apply`).
-/
module

public import proofs.«01_k».proof.Proof.Gen.InprojCtxIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.InprojCtxIdeal.Value

open Cert.InprojCtxIdeal Cert.InprojCtxIdeal.Gen Idealize.ShloMosaic Idealize.ShloMosaic.TcCoe Idealize.SL.Sem
open Idealize.ShloMosaic.Pipeline (Dat)
open Idealize.ShloMosaic.ValueIdx

/-- The normalised and modulated rows that a run's first point stores: `x · rsqrt(mean(x²) + ε) · (gain · (1 + scale)) +
    shift`, the shift and the scale read from the context's row of the modulation. -/
def hrow (x0 : Vec Ideal S4x256x2048 .f32) (x1 : Vec Ideal S16x6144 .f32) (x2 : Vec Ideal S1x2048 .f32)
    (n : Fin 4) (r : Fin 256) (d : Fin 2048) : EReal :=
  x0 (Idealize.ShloMosaic.ix3 n r d)
    * Ideal.rsqrt (Ideal.div (∑ k : Fin 2048, x0 (Idealize.ShloMosaic.ix3 n r k) * x0 (Idealize.ShloMosaic.ix3 n r k))
        (Ideal.ofBits .f32 0x45000000#32) + Ideal.ofBits .f32 0x358637BD#32)
    * (x2 (Idealize.ShloMosaic.ix2 0 d) * (1 + x1 (Idealize.ShloMosaic.ix2 8 ⟨2048 + d.val, by omega⟩)))
    + x1 (Idealize.ShloMosaic.ix2 8 ⟨d.val, by omega⟩)

/-- The scratch that holds them: row `r` of batch `n` is row `256·n + r`. -/
def hrows (x0 : Vec Ideal S4x256x2048 .f32) (x1 : Vec Ideal S16x6144 .f32) (x2 : Vec Ideal S1x2048 .f32) :
    Vec Ideal S1024x2048 .bf16 := fun y =>
  hrow x0 x1 x2 (⟨(y 0).val / 256, by have h : (y 0).val < 1024 := (y 0).isLt; omega⟩ : Fin 4)
    (⟨(y 0).val % 256, by omega⟩ : Fin 256) (y 1)

section
variable (c : Dev nD) (i : grid0.Coords) (arg3 : Memref sig .tc .vmem S4x256x2048 .f32) (harg3 : arg3.IsWhole)
  (arg4 : Memref sig .tc .vmem S16x6144 .f32) (harg4 : arg4.IsWhole) (arg5 : Memref sig .tc .vmem S1x2048 .f32)
  (harg5 : arg5.IsWhole) (arg6 : Memref sig .tc .vmem S1x1792x2048 .bf16) (harg6 : arg6.IsWhole)
  (arg7 : Memref sig .tc .vmem S4x14x256x128 .bf16) (harg7 : arg7.IsWhole)
  (arg8 : Memref sig .tc .vmem S1024x2048 .bf16) (harg8 : arg8.IsWhole)
  (x0 : Vec Ideal S4x256x2048 .f32) (x1 : Vec Ideal S16x6144 .f32) (x2 : Vec Ideal S1x2048 .f32)
  (x3 : Vec Ideal S1x1792x2048 .bf16)

/-- The four stores of a run's first point, one for each batch: read back, they are the normalised rows. -/
theorem stores_eq :
    View.canon (Val := Elt Ideal) (s := S1024x2048) (e := .bf16)
      [⟨Rect.unit ![768, 0] ![256, 2048] inb_S1024x2048_S256x2048_768_0,
          k0_pay11 (View.ld x1 (Rect.unit ![8, 0] ![1, 2048] inb_S16x6144_S1x2048_8_0))
            (k0_pay10 (k0_pay5 x2 (View.ld x1 (Rect.unit ![8, 2048] ![1, 2048] inb_S16x6144_S1x2048_8_2048)))
              (View.ld x0 (Rect.unit ![3, 0, 0] ![1, 256, 2048] inb_S4x256x2048_S1x256x2048_3_0_0)))⟩,
        ⟨Rect.unit ![512, 0] ![256, 2048] inb_S1024x2048_S256x2048_512_0,
          k0_pay9 (View.ld x1 (Rect.unit ![8, 0] ![1, 2048] inb_S16x6144_S1x2048_8_0))
            (k0_pay5 x2 (View.ld x1 (Rect.unit ![8, 2048] ![1, 2048] inb_S16x6144_S1x2048_8_2048)))
            (View.ld x0 (Rect.unit ![2, 0, 0] ![1, 256, 2048] inb_S4x256x2048_S1x256x2048_2_0_0))⟩,
        ⟨Rect.unit ![256, 0] ![256, 2048] inb_S1024x2048_S256x2048_256_0,
          k0_pay8 (View.ld x1 (Rect.unit ![8, 0] ![1, 2048] inb_S16x6144_S1x2048_8_0))
            (k0_pay5 x2 (View.ld x1 (Rect.unit ![8, 2048] ![1, 2048] inb_S16x6144_S1x2048_8_2048)))
            (k0_pay7 (View.ld x0 (Rect.unit ![1, 0, 0] ![1, 256, 2048] inb_S4x256x2048_S1x256x2048_1_0_0)))⟩,
        ⟨Rect.unit ![0, 0] ![256, 2048] inb_S1024x2048_S256x2048_0_0,
          k0_pay6 (View.ld x1 (Rect.unit ![8, 0] ![1, 2048] inb_S16x6144_S1x2048_8_0)) x2
            (View.ld x1 (Rect.unit ![8, 2048] ![1, 2048] inb_S16x6144_S1x2048_8_2048))
            (View.ld x0 (Rect.unit ![0, 0, 0] ![1, 256, 2048] inb_S4x256x2048_S1x256x2048_0_0_0))⟩]
      = hrows x0 x1 x2 := by
  funext y
  canon_tiles x h
  all_goals
    unfold hrows hrow
    unfold_payloads
    pointwise
    blk_point

/-- A load of the whole scratch after stores reads the stores. -/
theorem readCov_scratch {sig : RefSig} {κ : Kind} {sp : Space} (v : View sig κ sp S1024x2048 .bf16)
    (L : List (View.Piece (Elt Ideal) S1024x2048 .bf16)) (X : Vec Ideal S1024x2048 .bf16) (h : View.canon L = X)
    (inb : ∀ a, (![0, 0] : Fin 2 → ℕ) a + (![1024, 2048] : Fin 2 → ℕ) a ≤ S1024x2048.size a) :
    v.readCov L (Rect.unit (s := S1024x2048) ![0, 0] ![1024, 2048] inb).toLoadRect = X := by
  rw [View.readCov_eq_canon', h]
  funext j
  refine congrArg X (funext fun a => Fin.ext ?_)
  match a with
  | ⟨0, _⟩ => exact (Nat.zero_add _).trans (Nat.one_mul _)
  | ⟨1, _⟩ => exact (Nat.zero_add _).trans (Nat.one_mul _)

/-- The scratch after a run's first point: the normalised rows. -/
theorem sout_A (hc0 : cond0_0 i) :
    sout0_A_0 c i arg3 harg3 arg4 harg4 arg5 harg5 arg6 harg6 arg7 harg7 arg8 harg8 hc0 x0 x1 x2 x3
      = hrows x0 x1 x2 := by
  funext y
  frame_out
  exact congrFun (stores_eq x0 x1 x2) y

/-- A later point carries the scratch. -/
theorem sout_B (hc0 : ¬cond0_0 i) (xs : Vec Ideal S1024x2048 .bf16) :
    sout0_B_0 c i arg3 harg3 arg4 harg4 arg5 harg5 arg6 harg6 arg7 harg7 arg8 harg8 hc0 x0 x1 x2 x3 xs = xs := by
  unfold sout0_B_0
  try rfl

/-- The output block's element (n, h, r, l) from the rows `hh` and the weights' block `w`. -/
def prod (hh : Vec Ideal S1024x2048 .bf16) (w : Vec Ideal S1x1792x2048 .bf16) (y : S4x14x256x128.Idx) : EReal :=
  ∑ d : Fin 2048, hh (Idealize.ShloMosaic.ix2 (⟨256 * (y 0).val + (y 2).val, by
    have h0 : (y 0).val < 4 := (y 0).isLt
    have h2 : (y 2).val < 256 := (y 2).isLt
    omega⟩ : Fin 1024) d) * w (Idealize.ShloMosaic.ix3 0 (⟨128 * (y 1).val + (y 3).val, by
    have h1 : (y 1).val < 14 := (y 1).isLt
    have h3 : (y 3).val < 128 := (y 3).isLt
    omega⟩ : Fin 1792) d)

/-- A later point's output block, from the carried rows. -/
theorem out_B_apply (hc0 : ¬cond0_0 i) (xs : Vec Ideal S1024x2048 .bf16) (y : S4x14x256x128.Idx) :
    out0_B_4 c i arg3 harg3 arg4 harg4 arg5 harg5 arg6 harg6 arg7 harg7 arg8 harg8 hc0 x0 x1 x2 x3 xs y
      = prod xs x3 y := by
  frame_out
  canon_tiles x h
  all_goals
    unfold prod
    unfold_payloads
    pointwise
    blk_point

/-- A first point's output block, from the rows it has just stored. -/
theorem out_A_apply (hc0 : cond0_0 i) (y : S4x14x256x128.Idx) :
    out0_A_4 c i arg3 harg3 arg4 harg4 arg5 harg5 arg6 harg6 arg7 harg7 arg8 harg8 hc0 x0 x1 x2 x3 y
      = prod (hrows x0 x1 x2) x3 y := by
  frame_out
  simp only [readCov_scratch _ _ _ (stores_eq x0 x1 x2)]
  generalize hrows x0 x1 x2 = X
  canon_tiles x h
  all_goals
    unfold prod
    unfold_payloads
    pointwise
    blk_point
end

variable (m : (ℓ : Loc nD τ sig) → Buf (Elt Ideal) ℓ)

/-- The first point of a point's run. -/
def first (t : Fin cfg0.N) : Fin cfg0.N := ⟨4 * (t.val / 4), Pipeline.run_start_lt t⟩

/-- The normalised rows of the run that `t` belongs to. -/
def rows (c : Dev nD) (t : Fin cfg0.N) : Vec Ideal S1024x2048 .bf16 :=
  hrows (iblk m c 0 (first t)) (iblk m c 1 (first t)) (iblk m c 2 (first t))

theorem first_eq (t : Fin cfg0.N) (h : t.val % 4 = 0) : first t = t := by
  apply Fin.ext
  show 4 * (t.val / 4) = t.val
  omega

theorem rows_first (c : Dev nD) (t : Fin cfg0.N) (h : t.val % 4 = 0) :
    rows m c t = hrows (iblk m c 0 t) (iblk m c 1 t) (iblk m c 2 t) := by
  unfold rows
  rw [first_eq t h]

theorem rows_congr (c : Dev nD) (t u : Fin cfg0.N) (h : first t = first u) : rows m c t = rows m c u := by
  unfold rows
  rw [h]

/-- The scratch after point `t`: its run's rows. -/
theorem scratch_eq (c : Dev nD) (t : Fin cfg0.N) : (outsAt0 m c t.val t.isLt).2 = rows m c t := by
  have h := Pipeline.eq_of_write_hold (fun n h => (outsAt0 m c n h).2) 4 (rows m c)
    (fun t h0 => by
      rw [rows_first m c t h0]
      rw [outsAt0_A m c t h0]
      dsimp only
      rw [sout_A])
    (fun t h0 => by
      rw [outsAt0_B m c t h0]
      dsimp only
      rw [sout_B]) t
  refine h.trans ?_
  exact rows_congr m c _ _ (by apply Fin.ext; show 4 * (4 * (t.val / 4) / 4) = 4 * (t.val / 4); omega)

/-- The output block after point `t`: its run's rows times its block of the weights. -/
theorem out_eq (c : Dev nD) (t : Fin cfg0.N) (y : S4x14x256x128.Idx) :
    (outsAt0 m c t.val t.isLt).1 y = prod (rows m c t) (iblk m c 3 t) y := by
  by_cases h0 : t.val % 4 = 0
  · rw [rows_first m c t h0, outsAt0_A m c t h0]
    dsimp only
    rw [out_A_apply]
  · rw [outsAt0_B m c t h0]
    dsimp only
    rw [out_B_apply]
    rw [scratch_eq m c ⟨t.val - 1, Nat.lt_of_le_of_lt (Nat.sub_le _ _) t.isLt⟩,
      rows_congr m c _ t (by apply Fin.ext; show 4 * ((t.val - 1) / 4) = 4 * (t.val / 4); omega)]

end Cert.InprojCtxIdeal.Value

end
-- ==== Proof.InprojCtxValue.lean ====
/-
  The context's input projection's value over the extended reals: the array the kernel writes is the reference's result.

  A grid point's output block is its run's rows times its block of the weights (`out_eq`); read at an element, the rows
  and the weights are the arguments' (`point`), and the reference's element is the same sum: the kernel multiplies
  the normalised row by `gain · (1 + scale)`, the reference by the gain and then by `1 + scale`. The points' blocks
  fill the array, so the arrays agree (`final`).
-/
module

public import proofs.«01_k».proof.Proof.InprojCtxOut
public import proofs.«01_k».proof.Proof.Gen.InprojCtxReferenceIdeal.Read
public import Idealize.ShloMosaic.Lib.Claim

@[expose] public section

set_option maxRecDepth 16384

noncomputable section

namespace Cert.InprojCtxIdeal.Value

open Cert.InprojCtxIdeal Cert.InprojCtxIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- Where each window's block stands at a point: four batches by the point's run, weights and output columns by its
    place in the run. -/
theorem idx : ∀ t : Fin cfg0.N, win0_0.index t = ![t.val / 4, 0, 0] ∧ win0_1.index t = ![0, 0]
    ∧ win0_2.index t = ![0, 0] ∧ win0_3.index t = ![0, t.val % 4, 0]
    ∧ win0_4.index t = ![t.val / 4, t.val % 4, 0, 0] := by
  decide +kernel

/-- The result as the reference states it, a function of the four arguments. -/
def result (c : Dev nD) : (⟨S8x56x256x128, .bf16⟩ : BufTy).Contents (Elt Ideal) :=
  Cert.InprojCtxReferenceIdeal.Read.val_main_v32 (F := Ideal) (m ((c : Thread nD τ).loc main_arg0))
    (m ((c : Thread nD τ).loc main_arg1)) (m ((c : Thread nD τ).loc main_arg2)) (m ((c : Thread nD τ).loc main_arg3))

open Cert.InprojCtxReferenceIdeal.Read in
/-- The reference's element (b, h, r, l): the row r of batch b, normalised and modulated by the context's row, times the weights' row 128·h + l. -/
theorem ref_apply (x0 : Vec Ideal S8x256x2048 .f32) (x1 : Vec Ideal S16x6144 .f32) (x2 : Vec Ideal S1x2048 .f32)
    (x3 : Vec Ideal S2x7168x2048 .bf16) (b : Fin 8) (h : Fin 56) (r : Fin 256) (l : Fin 128) :
    val_main_v32 (F := Ideal) x0 x1 x2 x3 (Idealize.ShloMosaic.ix4 b h r l)
      = ∑ d : Fin 2048, (x0 (Idealize.ShloMosaic.ix3 b r d)
          * Ideal.rsqrt (Ideal.div (∑ k : Fin 2048, x0 (Idealize.ShloMosaic.ix3 b r k)
              * x0 (Idealize.ShloMosaic.ix3 b r k)) (Ideal.ofBits .f32 0x45000000#32)
            + Ideal.ofBits .f32 0x358637BD#32)
          * x2 (Idealize.ShloMosaic.ix2 0 d)
          * (1 + x1 (Idealize.ShloMosaic.ix2 8 ⟨2048 + d.val, by omega⟩))
          + x1 (Idealize.ShloMosaic.ix2 8 ⟨d.val, by omega⟩))
        * x3 (Idealize.ShloMosaic.ix3 0 ⟨h.val * 128 + l.val, by omega⟩ d) := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2]

/-- A point's output block, element by element, is the reference's result at the element's place in the array. -/
theorem point (c : Dev nD) (t : Fin cfg0.N) (y : S4x14x256x128.Idx) :
    prod (rows m c t) (iblk m c 3 t) y = result m c (((cfg0.win 4).blk t).view.emb y) := by
  obtain ⟨b, h, r, l, e⟩ : ∃ (b : Fin 8) (h : Fin 56) (r : Fin 256) (l : Fin 128),
      ((cfg0.win 4).blk t).view.emb y = Idealize.ShloMosaic.ix4 b h r l := ⟨_, _, _, _, Idealize.ShloMosaic.eq_ix4 _⟩
  have e0 := congrArg (fun i => (i 0).val) e
  have e1 := congrArg (fun i => (i 1).val) e
  have e2 := congrArg (fun i => (i 2).val) e
  have e3 := congrArg (fun i => (i 3).val) e
  rw [e]
  clear e
  blk_simp [idx] at e0 e1 e2 e3
  unfold result
  rw [ref_apply]
  unfold prod rows hrows hrow
  pointwise
  simp only [← mul_assoc]
  have ef : (first t).val = 4 * (t.val / 4) := rfl
  reads_congr
  all_goals blk_ext! [iblk, V, idx]
  all_goals omega

/-- The output array after the run is the reference's result. -/
theorem final (c : Dev nD) : (dats m 0 c).arrAt 4 cfg0.N = result m c := by
  refine (dats m 0 c).arrAt_eq_of_covers 4 _ (by decide +kernel) fun t hf y => ?_
  blk_simp
  rw [after0_4]
  exact (out_eq m c t y).trans (point m c t y)

end Cert.InprojCtxIdeal.Value

end
-- ==== Proof.OutprojCtxValue.lean ====
/-
  The context's output projection over the extended reals: the array the kernel writes is the reference's result.

  The four branches of the context lie beside one another in one array, and the kernel's four windows on it are its
  quarters; so each product of a window with the weights' block of 512 rows is a quarter of the reference's sum over 2048
  positions (`sum_quarters`). Gate and stream are read from the context's row of the modulation, the ninth.
-/
module

public import proofs.«01_k».proof.Proof.Gen.OutprojCtxIdeal.Value
public import proofs.«01_k».proof.Proof.Gen.OutprojCtxReferenceIdeal.Read
public import proofs.«01_k».proof.Proof.OutprojValue

@[expose] public section

set_option maxRecDepth 16384

noncomputable section

namespace Cert.OutprojCtxIdeal.Value

open Cert.OutprojCtxIdeal Cert.OutprojCtxIdeal.Gen Idealize.ShloMosaic Idealize.ShloMosaic.TcCoe Idealize.SL.Sem
open Idealize.ShloMosaic.Pipeline (Dat)
open Idealize.ShloMosaic.ValueIdx

/-- One branch's rows times the weights' block for it, at row `r` and column `l`. -/
def part (x : Vec Ideal S1x256x512 .bf16) (w : Vec Ideal S1x4x512x2048 .bf16) (k : Fin 4) (r : Fin 256) (l : Fin 2048) :
    EReal :=
  ∑ d : Fin 512, x (Idealize.ShloMosaic.ix3 0 r d) * w (Idealize.ShloMosaic.ix4 0 k d l)

/-- A point's output block, element by element. -/
theorem out_apply (x0 : Vec Ideal S1x256x2048 .f32) (x1 x2 x3 x4 : Vec Ideal S1x256x512 .bf16)
    (x5 : Vec Ideal S1x4x512x2048 .bf16) (x6 : Vec Ideal S16x6144 .f32) (r : Fin 256) (l : Fin 2048) :
    out0_7 x0 x1 x2 x3 x4 x5 x6 (Idealize.ShloMosaic.ix3 0 r l)
      = x0 (Idealize.ShloMosaic.ix3 0 r l) + x6 (Idealize.ShloMosaic.ix2 8 ⟨4096 + l.val, by omega⟩)
        * (part x1 x5 0 r l + part x2 x5 1 r l + part x3 x5 2 r l + part x4 x5 3 r l) := by
  frame_out
  unfold part
  unfold_payloads
  pointwise

open Cert.OutprojCtxReferenceIdeal.Read in
/-- The reference's element (b, r, l), its product a quarter at a time. -/
theorem ref_apply (x0 : Vec Ideal S8x256x2048 .f32) (x1 : Vec Ideal S8x256x2048 .bf16)
    (x2 : Vec Ideal S2x2048x2048 .f32) (x3 : Vec Ideal S16x6144 .f32) (b : Fin 8) (r : Fin 256) (l : Fin 2048) :
    val_main_v9 (F := Ideal) x0 x1 x2 x3 (Idealize.ShloMosaic.ix3 b r l)
      = x0 (Idealize.ShloMosaic.ix3 b r l) + x3 (Idealize.ShloMosaic.ix2 8 ⟨4096 + l.val, by omega⟩)
        * ((∑ d : Fin 512, x1 (Idealize.ShloMosaic.ix3 b r ⟨d.val, by omega⟩)
              * x2 (Idealize.ShloMosaic.ix3 0 ⟨d.val, by omega⟩ l))
          + (∑ d : Fin 512, x1 (Idealize.ShloMosaic.ix3 b r ⟨512 + d.val, by omega⟩)
              * x2 (Idealize.ShloMosaic.ix3 0 ⟨512 + d.val, by omega⟩ l))
          + (∑ d : Fin 512, x1 (Idealize.ShloMosaic.ix3 b r ⟨1024 + d.val, by omega⟩)
              * x2 (Idealize.ShloMosaic.ix3 0 ⟨1024 + d.val, by omega⟩ l))
          + ∑ d : Fin 512, x1 (Idealize.ShloMosaic.ix3 b r ⟨1536 + d.val, by omega⟩)
              * x2 (Idealize.ShloMosaic.ix3 0 ⟨1536 + d.val, by omega⟩ l)) := by
  rw [← Cert.OutprojIdeal.Value.sum_quarters
    (fun d => x1 (Idealize.ShloMosaic.ix3 b r d) * x2 (Idealize.ShloMosaic.ix3 0 d l))]
  pointwise [val_main_v9, val_main_v8, val_main_v7, val_main_v6, val_main_v5, val_main_v4, val_main_v3, val_main_v2,
    val_main_v1, val_main_v0]

variable (m : (ℓ : Loc nD τ sig) → Buf (Elt Ideal) ℓ)

/-- Where each window's block stands at a point: the batch is the point, the four branches are the quarters of a row. -/
theorem idx : ∀ t : Fin cfg0.N, win0_0.index t = ![t.val, 0, 0] ∧ win0_1.index t = ![t.val, 0, 0]
    ∧ win0_2.index t = ![t.val, 0, 1] ∧ win0_3.index t = ![t.val, 0, 2]
    ∧ win0_4.index t = ![t.val, 0, 3] ∧ win0_5.index t = ![0, 0, 0, 0] ∧ win0_6.index t = ![0, 0]
    ∧ win0_7.index t = ![t.val, 0, 0] := by
  decide +kernel

/-- The weights as the kernel finds them: the argument's 2048 rows as four blocks of 512. -/
theorem weights (c : Dev nD) : (V m c main_v1 : Vec Ideal S2x4x512x2048 .bf16)
    = shapeCast S2x4x512x2048 (truncf (F := Ideal) .bf16
        (m ((c : Thread nD τ).loc main_arg2) : Vec Ideal S2x2048x2048 .f32) bitsLt_bf16_f32)
        shapeCasts_S2x2048x2048_S2x4x512x2048 := by
  unfold_abbrev_sides
  after_results
  rfl

/-- The weights' block at a point, an element at a time. -/
theorem wblk (c : Dev nD) (t : Fin cfg0.N) (k : Fin 4) (d : Fin 512) (l : Fin 2048) :
    (iblk m c 5 t : Vec Ideal S1x4x512x2048 .bf16) (Idealize.ShloMosaic.ix4 0 k d l)
      = (m ((c : Thread nD τ).loc main_arg2) : Vec Ideal S2x2048x2048 .f32)
          (Idealize.ShloMosaic.ix3 0 ⟨512 * k.val + d.val, by omega⟩ l) := by
  have h : (iblk m c 5 t : Vec Ideal S1x4x512x2048 .bf16) (Idealize.ShloMosaic.ix4 0 k d l)
      = (V m c main_v1 : Vec Ideal S2x4x512x2048 .bf16) (Idealize.ShloMosaic.ix4 0 k d l) := by
    unfold iblk
    blk_ext! [idx]
    all_goals omega
  rw [h, weights]
  exact Cert.OutprojIdeal.Value.reshape_apply _ 0 k d l

/-- The result as the reference states it, a function of the four arguments. -/
def result (c : Dev nD) : (⟨S8x256x2048, .f32⟩ : BufTy).Contents (Elt Ideal) :=
  Cert.OutprojCtxReferenceIdeal.Read.val_main_v9 (F := Ideal) (m ((c : Thread nD τ).loc main_arg0))
    (m ((c : Thread nD τ).loc main_arg1)) (m ((c : Thread nD τ).loc main_arg2)) (m ((c : Thread nD τ).loc main_arg3))

/-- A point's output block, element by element, is the reference's result at the element's place in the array. -/
theorem point (c : Dev nD) (t : Fin cfg0.N) (y : S1x256x2048.Idx) :
    out0_7 (iblk m c 0 t) (iblk m c 1 t) (iblk m c 2 t) (iblk m c 3 t) (iblk m c 4 t) (iblk m c 5 t) (iblk m c 6 t) y
      = result m c (((cfg0.win 7).blk t).view.emb y) := by
  obtain ⟨b, r, l, e⟩ : ∃ (b : Fin 8) (r : Fin 256) (l : Fin 2048),
      ((cfg0.win 7).blk t).view.emb y = Idealize.ShloMosaic.ix3 b r l := ⟨_, _, _, Idealize.ShloMosaic.eq_ix3 _⟩
  obtain ⟨y0, y1, y2, ey⟩ : ∃ (y0 : Fin 1) (y1 : Fin 256) (y2 : Fin 2048),
      y = Idealize.ShloMosaic.ix3 y0 y1 y2 := ⟨_, _, _, Idealize.ShloMosaic.eq_ix3 _⟩
  have hy0 : y0 = 0 := Subsingleton.elim _ _
  subst hy0 ey
  have e0 := congrArg (fun i => (i 0).val) e
  have e1 := congrArg (fun i => (i 1).val) e
  have e2 := congrArg (fun i => (i 2).val) e
  rw [e]
  clear e
  blk_simp [idx] at e0 e1 e2
  unfold result
  rw [ref_apply, out_apply]
  unfold part
  simp only [wblk]
  reads_congr
  all_goals blk_ext! [iblk, V, idx]
  all_goals omega

/-- The output array after the run is the reference's result. -/
theorem final (c : Dev nD) : (dats m 0 c).arrAt 7 cfg0.N = result m c := by
  refine (dats m 0 c).arrAt_eq_of_covers 7 _ (by decide +kernel) fun t hf y => ?_
  blk_simp
  rw [after0_7]
  exact point m c t y

end Cert.OutprojCtxIdeal.Value

end
-- ==== Proof.InprojLastOut.lean ====
/-
  The context's input projection in the last layer, one grid point at a time, over the extended reals. The rows a
  run's first point stores are those of the first layer's call (`hrows`); a point's block of the weights and of the
  output is 1024 columns wide, its output block 32 slices.
-/
module

public import proofs.«01_k».proof.Proof.Gen.InprojLastIdeal.Value
public import Idealize.ShloMosaic.Lib.Pipeline.ValueKit
public import Idealize.ShloMosaic.Lib.Pipeline.ValueKit.Held
public import Idealize.ShloMosaic.Lib.Pipeline.ReadBack
public import proofs.«01_k».proof.Proof.InprojCtxOut

@[expose] public section

set_option maxRecDepth 16384

noncomputable section

namespace Cert.InprojLastIdeal.Value

open Cert.InprojLastIdeal Cert.InprojLastIdeal.Gen Idealize.ShloMosaic Idealize.ShloMosaic.TcCoe Idealize.SL.Sem
open Idealize.ShloMosaic.Pipeline (Dat)
open Idealize.ShloMosaic.ValueIdx
open Cert.InprojCtxIdeal.Value (hrow hrows readCov_scratch)

section
variable (c : Dev nD) (i : grid0.Coords) (arg3 : Memref sig .tc .vmem S4x256x2048 .f32) (harg3 : arg3.IsWhole)
  (arg4 : Memref sig .tc .vmem S16x6144 .f32) (harg4 : arg4.IsWhole) (arg5 : Memref sig .tc .vmem S1x2048 .f32)
  (harg5 : arg5.IsWhole) (arg6 : Memref sig .tc .vmem S1x1024x2048 .bf16) (harg6 : arg6.IsWhole)
  (arg7 : Memref sig .tc .vmem S4x8x256x128 .bf16) (harg7 : arg7.IsWhole)
  (arg8 : Memref sig .tc .vmem S1024x2048 .bf16) (harg8 : arg8.IsWhole)
  (x0 : Vec Ideal S4x256x2048 .f32) (x1 : Vec Ideal S16x6144 .f32) (x2 : Vec Ideal S1x2048 .f32)
  (x3 : Vec Ideal S1x1024x2048 .bf16)

/-- The four stores of a run's first point, one for each batch: read back, they are the normalised rows. -/
theorem stores_eq :
    View.canon (Val := Elt Ideal) (s := S1024x2048) (e := .bf16)
      [⟨Rect.unit ![768, 0] ![256, 2048] inb_S1024x2048_S256x2048_768_0,
          k0_pay11 (View.ld x1 (Rect.unit ![8, 0] ![1, 2048] inb_S16x6144_S1x2048_8_0))
            (k0_pay10 (k0_pay5 x2 (View.ld x1 (Rect.unit ![8, 2048] ![1, 2048] inb_S16x6144_S1x2048_8_2048)))
              (View.ld x0 (Rect.unit ![3, 0, 0] ![1, 256, 2048] inb_S4x256x2048_S1x256x2048_3_0_0)))⟩,
        ⟨Rect.unit ![512, 0] ![256, 2048] inb_S1024x2048_S256x2048_512_0,
          k0_pay9 (View.ld x1 (Rect.unit ![8, 0] ![1, 2048] inb_S16x6144_S1x2048_8_0))
            (k0_pay5 x2 (View.ld x1 (Rect.unit ![8, 2048] ![1, 2048] inb_S16x6144_S1x2048_8_2048)))
            (View.ld x0 (Rect.unit ![2, 0, 0] ![1, 256, 2048] inb_S4x256x2048_S1x256x2048_2_0_0))⟩,
        ⟨Rect.unit ![256, 0] ![256, 2048] inb_S1024x2048_S256x2048_256_0,
          k0_pay8 (View.ld x1 (Rect.unit ![8, 0] ![1, 2048] inb_S16x6144_S1x2048_8_0))
            (k0_pay5 x2 (View.ld x1 (Rect.unit ![8, 2048] ![1, 2048] inb_S16x6144_S1x2048_8_2048)))
            (k0_pay7 (View.ld x0 (Rect.unit ![1, 0, 0] ![1, 256, 2048] inb_S4x256x2048_S1x256x2048_1_0_0)))⟩,
        ⟨Rect.unit ![0, 0] ![256, 2048] inb_S1024x2048_S256x2048_0_0,
          k0_pay6 (View.ld x1 (Rect.unit ![8, 0] ![1, 2048] inb_S16x6144_S1x2048_8_0)) x2
            (View.ld x1 (Rect.unit ![8, 2048] ![1, 2048] inb_S16x6144_S1x2048_8_2048))
            (View.ld x0 (Rect.unit ![0, 0, 0] ![1, 256, 2048] inb_S4x256x2048_S1x256x2048_0_0_0))⟩]
      = hrows x0 x1 x2 := by
  funext y
  canon_tiles x h
  all_goals
    unfold hrows hrow
    unfold_payloads
    pointwise
    blk_point

/-- The scratch after a run's first point: the normalised rows. -/
theorem sout_A (hc0 : cond0_0 i) :
    sout0_A_0 c i arg3 harg3 arg4 harg4 arg5 harg5 arg6 harg6 arg7 harg7 arg8 harg8 hc0 x0 x1 x2 x3
      = hrows x0 x1 x2 := by
  funext y
  frame_out
  exact congrFun (stores_eq x0 x1 x2) y

/-- A later point carries the scratch. -/
theorem sout_B (hc0 : ¬cond0_0 i) (xs : Vec Ideal S1024x2048 .bf16) :
    sout0_B_0 c i arg3 harg3 arg4 harg4 arg5 harg5 arg6 harg6 arg7 harg7 arg8 harg8 hc0 x0 x1 x2 x3 xs = xs := by
  unfold sout0_B_0
  try rfl

/-- The output block's element (n, h, r, l) from the rows `hh` and the weights' block `w`. -/
def prod (hh : Vec Ideal S1024x2048 .bf16) (w : Vec Ideal S1x1024x2048 .bf16) (y : S4x8x256x128.Idx) : EReal :=
  ∑ d : Fin 2048, hh (Idealize.ShloMosaic.ix2 (⟨256 * (y 0).val + (y 2).val, by
    have h0 : (y 0).val < 4 := (y 0).isLt
    have h2 : (y 2).val < 256 := (y 2).isLt
    omega⟩ : Fin 1024) d) * w (Idealize.ShloMosaic.ix3 0 (⟨128 * (y 1).val + (y 3).val, by
    have h1 : (y 1).val < 8 := (y 1).isLt
    have h3 : (y 3).val < 128 := (y 3).isLt
    omega⟩ : Fin 1024) d)

/-- A later point's output block, from the carried rows. -/
theorem out_B_apply (hc0 : ¬cond0_0 i) (xs : Vec Ideal S1024x2048 .bf16) (y : S4x8x256x128.Idx) :
    out0_B_4 c i arg3 harg3 arg4 harg4 arg5 harg5 arg6 harg6 arg7 harg7 arg8 harg8 hc0 x0 x1 x2 x3 xs y
      = prod xs x3 y := by
  frame_out
  canon_tiles x h
  all_goals
    unfold prod
    unfold_payloads
    pointwise
    blk_point

/-- A first point's output block, from the rows it has just stored. -/
theorem out_A_apply (hc0 : cond0_0 i) (y : S4x8x256x128.Idx) :
    out0_A_4 c i arg3 harg3 arg4 harg4 arg5 harg5 arg6 harg6 arg7 harg7 arg8 harg8 hc0 x0 x1 x2 x3 y
      = prod (hrows x0 x1 x2) x3 y := by
  frame_out
  simp only [readCov_scratch _ _ _ (stores_eq x0 x1 x2)]
  generalize hrows x0 x1 x2 = X
  canon_tiles x h
  all_goals
    unfold prod
    unfold_payloads
    pointwise
    blk_point
end

variable (m : (ℓ : Loc nD τ sig) → Buf (Elt Ideal) ℓ)

/-- The first point of a point's run. -/
def first (t : Fin cfg0.N) : Fin cfg0.N := ⟨4 * (t.val / 4), Pipeline.run_start_lt t⟩

/-- The normalised rows of the run that `t` belongs to. -/
def rows (c : Dev nD) (t : Fin cfg0.N) : Vec Ideal S1024x2048 .bf16 :=
  hrows (iblk m c 0 (first t)) (iblk m c 1 (first t)) (iblk m c 2 (first t))

theorem first_eq (t : Fin cfg0.N) (h : t.val % 4 = 0) : first t = t := by
  apply Fin.ext
  show 4 * (t.val / 4) = t.val
  omega

theorem rows_first (c : Dev nD) (t : Fin cfg0.N) (h : t.val % 4 = 0) :
    rows m c t = hrows (iblk m c 0 t) (iblk m c 1 t) (iblk m c 2 t) := by
  unfold rows
  rw [first_eq t h]

theorem rows_congr (c : Dev nD) (t u : Fin cfg0.N) (h : first t = first u) : rows m c t = rows m c u := by
  unfold rows
  rw [h]

/-- The scratch after point `t`: its run's rows. -/
theorem scratch_eq (c : Dev nD) (t : Fin cfg0.N) : (outsAt0 m c t.val t.isLt).2 = rows m c t := by
  have h := Pipeline.eq_of_write_hold (fun n h => (outsAt0 m c n h).2) 4 (rows m c)
    (fun t h0 => by
      rw [rows_first m c t h0]
      rw [outsAt0_A m c t h0]
      dsimp only
      rw [sout_A])
    (fun t h0 => by
      rw [outsAt0_B m c t h0]
      dsimp only
      rw [sout_B]) t
  refine h.trans ?_
  exact rows_congr m c _ _ (by apply Fin.ext; show 4 * (4 * (t.val / 4) / 4) = 4 * (t.val / 4); omega)

/-- The output block after point `t`: its run's rows times its block of the weights. -/
theorem out_eq (c : Dev nD) (t : Fin cfg0.N) (y : S4x8x256x128.Idx) :
    (outsAt0 m c t.val t.isLt).1 y = prod (rows m c t) (iblk m c 3 t) y := by
  by_cases h0 : t.val % 4 = 0
  · rw [rows_first m c t h0, outsAt0_A m c t h0]
    dsimp only
    rw [out_A_apply]
  · rw [outsAt0_B m c t h0]
    dsimp only
    rw [out_B_apply]
    rw [scratch_eq m c ⟨t.val - 1, Nat.lt_of_le_of_lt (Nat.sub_le _ _) t.isLt⟩,
      rows_congr m c _ t (by apply Fin.ext; show 4 * ((t.val - 1) / 4) = 4 * (t.val / 4); omega)]

end Cert.InprojLastIdeal.Value

end
-- ==== Proof.InprojLastValue.lean ====
/-
  The value of the context's input projection in the last layer over the extended reals: the array the kernel writes is
  the reference's result. Slice `h` of the result is slice `h % 8` of the kept block `h / 8`, which holds the
  weights' rows from `2048 · (h / 8)` on.
-/
module

public import proofs.«01_k».proof.Proof.InprojLastOut
public import proofs.«01_k».proof.Proof.Gen.InprojLastReferenceIdeal.Read
public import Idealize.ShloMosaic.Lib.Claim

@[expose] public section

set_option maxRecDepth 16384

noncomputable section

namespace Cert.InprojLastIdeal.Value

open Cert.InprojLastIdeal Cert.InprojLastIdeal.Gen Idealize.ShloMosaic Idealize.ShloMosaic.TcCoe Idealize.SL.Sem
open Idealize.ShloMosaic.Pipeline (Dat)
open Idealize.ShloMosaic.ValueIdx
open Cert.InprojCtxIdeal.Value (hrow hrows)

variable (m : (ℓ : Loc nD τ sig) → Buf (Elt Ideal) ℓ)

/-- Where each window's block stands at a point: four batches by the point's run, weights and output columns by its
    place in the run. -/
theorem idx : ∀ t : Fin cfg0.N, win0_0.index t = ![t.val / 4, 0, 0] ∧ win0_1.index t = ![0, 0]
    ∧ win0_2.index t = ![0, 0] ∧ win0_3.index t = ![1, 2 * (t.val % 4), 0]
    ∧ win0_4.index t = ![t.val / 4, t.val % 4, 0, 0] := by
  decide +kernel

/-- The result as the reference states it, a function of the four arguments. -/
def result (c : Dev nD) : (⟨S8x32x256x128, .bf16⟩ : BufTy).Contents (Elt Ideal) :=
  Cert.InprojLastReferenceIdeal.Read.val_main_v37 (F := Ideal) (m ((c : Thread nD τ).loc main_arg0))
    (m ((c : Thread nD τ).loc main_arg1)) (m ((c : Thread nD τ).loc main_arg2)) (m ((c : Thread nD τ).loc main_arg3))

open Cert.InprojLastReferenceIdeal.Read in
/-- The reference's element (b, h, r, l): the row r of batch b, normalised and modulated by the context's row, times the
    weights' row 128·(h % 8) + l of the kept block h / 8. -/
theorem ref_apply (x0 : Vec Ideal S8x256x2048 .f32) (x1 : Vec Ideal S16x6144 .f32) (x2 : Vec Ideal S1x2048 .f32)
    (x3 : Vec Ideal S2x7168x2048 .bf16) (b : Fin 8) (h : Fin 32) (r : Fin 256) (l : Fin 128) :
    val_main_v37 (F := Ideal) x0 x1 x2 x3 (Idealize.ShloMosaic.ix4 b h r l)
      = ∑ d : Fin 2048, (x0 (Idealize.ShloMosaic.ix3 b r d)
          * Ideal.rsqrt (Ideal.div (∑ k : Fin 2048, x0 (Idealize.ShloMosaic.ix3 b r k)
              * x0 (Idealize.ShloMosaic.ix3 b r k)) (Ideal.ofBits .f32 0x45000000#32)
            + Ideal.ofBits .f32 0x358637BD#32)
          * x2 (Idealize.ShloMosaic.ix2 0 d)
          * (1 + x1 (Idealize.ShloMosaic.ix2 8 ⟨2048 + d.val, by omega⟩))
          + x1 (Idealize.ShloMosaic.ix2 8 ⟨d.val, by omega⟩))
        * x3 (Idealize.ShloMosaic.ix3 1 ⟨h.val / 8 * 2048 + h.val % 8 * 128 + l.val, by omega⟩ d) := by
  pointwise [val_main_v37, val_main_v36, val_main_v35, val_main_v34, val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2]
  split_ifs
  all_goals
    refine Finset.sum_congr rfl fun d _ =>
      congrArg (_ * ·) (congrArg (fun k => x3 (Idealize.ShloMosaic.ix3 1 k d)) (Fin.ext ?_))
    dsimp only
    omega

/-- A point's output block, element by element, is the reference's result at the element's place in the array. -/
theorem point (c : Dev nD) (t : Fin cfg0.N) (y : S4x8x256x128.Idx) :
    prod (rows m c t) (iblk m c 3 t) y = result m c (((cfg0.win 4).blk t).view.emb y) := by
  obtain ⟨b, h, r, l, e⟩ : ∃ (b : Fin 8) (h : Fin 32) (r : Fin 256) (l : Fin 128),
      ((cfg0.win 4).blk t).view.emb y = Idealize.ShloMosaic.ix4 b h r l := ⟨_, _, _, _, Idealize.ShloMosaic.eq_ix4 _⟩
  have e0 := congrArg (fun i => (i 0).val) e
  have e1 := congrArg (fun i => (i 1).val) e
  have e2 := congrArg (fun i => (i 2).val) e
  have e3 := congrArg (fun i => (i 3).val) e
  rw [e]
  clear e
  blk_simp [idx] at e0 e1 e2 e3
  unfold result
  rw [ref_apply]
  unfold prod rows hrows hrow
  pointwise
  simp only [← mul_assoc]
  have ef : (first t).val = 4 * (t.val / 4) := rfl
  reads_congr
  all_goals blk_ext! [iblk, V, idx]
  all_goals omega

/-- The output array after the run is the reference's result. -/
theorem final (c : Dev nD) : (dats m 0 c).arrAt 4 cfg0.N = result m c := by
  refine (dats m 0 c).arrAt_eq_of_covers 4 _ (by decide +kernel) fun t hf y => ?_
  blk_simp
  rw [after0_4]
  exact (out_eq m c t y).trans (point m c t y)

end Cert.InprojLastIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojReferenceIdeal
public import proofs.«01_k».proof.Proof.Gen.InprojIdeal.Value
public import proofs.«01_k».proof.Proof.Gen.InprojReferenceIdeal.Run
public import proofs.«01_k».proof.Proof.Gen.InprojReferenceIdeal.Read
public import proofs.«01_k».proof.Proof.Gen.ReferenceIdeal.Run
public import proofs.«01_k».proof.Proof.Gen.ReferenceIdeal.Read
public import proofs.«01_k».proof.Proof.Gen.OutprojIdeal.Value
public import proofs.«01_k».proof.Proof.Gen.OutprojReferenceIdeal.Run
public import proofs.«01_k».proof.Proof.Gen.OutprojReferenceIdeal.Read
public import proofs.«01_k».proof.Proof.Gen.InprojCtx
public import proofs.«01_k».proof.Proof.Gen.InprojCtx.Skeleton
public import proofs.«01_k».proof.Proof.Gen.InprojCtx.Launch
public import proofs.«01_k».proof.Proof.Gen.InprojCtx.Points
public import proofs.«01_k».proof.Proof.Gen.InprojCtx.Frame
public import proofs.«01_k».proof.Proof.Gen.InprojCtxIdeal
public import proofs.«01_k».proof.Proof.Gen.InprojCtxIdeal.Skeleton
public import proofs.«01_k».proof.Proof.Gen.InprojCtxIdeal.Launch
public import proofs.«01_k».proof.Proof.Gen.InprojCtxIdeal.Points
public import proofs.«01_k».proof.Proof.Gen.InprojCtxIdeal.Frame
public import proofs.«01_k».proof.Proof.Gen.OutprojCtx
public import proofs.«01_k».proof.Proof.Gen.OutprojCtx.Skeleton
public import proofs.«01_k».proof.Proof.Gen.OutprojCtx.Launch
public import proofs.«01_k».proof.Proof.Gen.OutprojCtx.Points
public import proofs.«01_k».proof.Proof.Gen.OutprojCtx.Frame
public import proofs.«01_k».proof.Proof.Gen.OutprojCtxIdeal
public import proofs.«01_k».proof.Proof.Gen.OutprojCtxIdeal.Skeleton
public import proofs.«01_k».proof.Proof.Gen.OutprojCtxIdeal.Launch
public import proofs.«01_k».proof.Proof.Gen.OutprojCtxIdeal.Points
public import proofs.«01_k».proof.Proof.Gen.OutprojCtxIdeal.Frame
public import proofs.«01_k».proof.Proof.Gen.InprojCtxIdeal.Value
public import proofs.«01_k».proof.Proof.Gen.InprojCtxReferenceIdeal
public import proofs.«01_k».proof.Proof.Gen.InprojCtxReferenceIdeal.Run
public import proofs.«01_k».proof.Proof.Gen.InprojCtxReferenceIdeal.Read
public import proofs.«01_k».proof.Proof.Gen.InprojLast
public import proofs.«01_k».proof.Proof.Gen.InprojLast.Skeleton
public import proofs.«01_k».proof.Proof.Gen.InprojLast.Launch
public import proofs.«01_k».proof.Proof.Gen.InprojLast.Points
public import proofs.«01_k».proof.Proof.Gen.InprojLast.Frame
public import proofs.«01_k».proof.Proof.Gen.InprojLastIdeal
public import proofs.«01_k».proof.Proof.Gen.InprojLastIdeal.Skeleton
public import proofs.«01_k».proof.Proof.Gen.InprojLastIdeal.Launch
public import proofs.«01_k».proof.Proof.Gen.InprojLastIdeal.Points
public import proofs.«01_k».proof.Proof.Gen.InprojLastIdeal.Frame
public import proofs.«01_k».proof.Proof.Gen.InprojLastIdeal.Value
public import proofs.«01_k».proof.Proof.Gen.InprojLastReferenceIdeal
public import proofs.«01_k».proof.Proof.Gen.InprojLastReferenceIdeal.Run
public import proofs.«01_k».proof.Proof.Gen.InprojLastReferenceIdeal.Read
public import proofs.«01_k».proof.Proof.Gen.OutprojCtxIdeal.Value
public import proofs.«01_k».proof.Proof.Gen.OutprojCtxReferenceIdeal
public import proofs.«01_k».proof.Proof.Gen.OutprojCtxReferenceIdeal.Run
public import proofs.«01_k».proof.Proof.Gen.OutprojCtxReferenceIdeal.Read
public import proofs.«01_k».proof.Proof.AttnFrame
public import proofs.«01_k».proof.Proof.AttnFrameP
public import proofs.«01_k».proof.Proof.AttnMath
public import proofs.«01_k».proof.Proof.AttnArgs
public import proofs.«01_k».proof.Proof.AttnParts
public import proofs.«01_k».proof.Proof.AttnRef
public import proofs.«01_k».proof.Proof.AttnBlock
public import proofs.«01_k».proof.Proof.AttnValue
public import proofs.«01_k».proof.Proof.AttnPre
public import proofs.«01_k».proof.Proof.InprojValue
public import proofs.«01_k».proof.Proof.OutprojValue
public import proofs.«01_k».proof.Proof.InprojCtxValue
public import proofs.«01_k».proof.Proof.OutprojCtxValue
public import proofs.«01_k».proof.Proof.InprojLastValue
public import Idealize.ShloMosaic.Adequacy
public import Idealize.ShloMosaic.Init

@[expose] public section

noncomputable section

namespace Cert.Proof

open Idealize.ShloMosaic Idealize.SL.Sem Cert.Kernel

/-- The named scale is the constant it stands for: the kernel's word is its rounding. -/
theorem preserves : Cert.preserves_Kernel_KernelIdeal :=
  IdealRules.named_const.statement Cert.KernelIdeal.κ "qscale" .f32 0x3E0293EE#32 _ rfl

/-- The attention: from finite tables and gains, kernel and reference end with the same array. -/
theorem algebraic_attn : Cert.algebraic_KernelIdeal_ReferenceIdeal_pre_finite_tables := by
  intro m g m' g' hp hm
  refine ⟨fun c => Cert.KernelIdeal.Attn.result m c, ?_, ?_⟩
  · refine (θ_run _ _ _).mono (fun r h c => ?_) (Cert.KernelIdeal.Attn.run_blocks m g)
    obtain ⟨h0, h1⟩ := h c
    obtain ⟨p2, p3, p4, p5⟩ := Cert.Attn.pre_real _ _ _ _ _ _ (hp c)
    exact ⟨h0.trans (Cert.KernelIdeal.Attn.final m c ⟨p2, p3, p4, p5⟩), h1⟩
  · refine (θ_run _ _ _).mono (fun r h c => ?_) (Cert.ReferenceIdeal.Value.run (F := Ideal) m' g')
    obtain ⟨h0, h1⟩ := h c
    refine ⟨h0.trans ?_, h1⟩
    obtain ⟨a0, a1, a2, a3, a4, a5⟩ := hm c
    rw [Cert.ReferenceIdeal.Read.val_main_v112_eq, a0, a1, a2, a3, a4, a5]
    rfl

/-- The input projection: kernel and reference end with the same array. -/
theorem algebraic_inproj : Cert.algebraic_InprojIdeal_InprojReferenceIdeal := by
  intro m g m' g' _ hm
  refine ⟨fun c => Cert.InprojIdeal.Value.result m c, ?_, ?_⟩
  · refine (θ_run _ _ _).mono (fun r h c => ?_) (Cert.InprojIdeal.Value.run_blocks m g)
    obtain ⟨h0, h1⟩ := h c
    exact ⟨h0.trans (Cert.InprojIdeal.Value.final m c), h1⟩
  · refine (θ_run _ _ _).mono (fun r h c => ?_) (Cert.InprojReferenceIdeal.Value.run (F := Ideal) m' g')
    obtain ⟨h0, h1⟩ := h c
    refine ⟨h0.trans ?_, h1⟩
    obtain ⟨a0, a1, a2, a3⟩ := hm c
    rw [Cert.InprojReferenceIdeal.Read.val_main_v30_eq, a0, a1, a2, a3]
    rfl

/-- The output projection: kernel and reference end with the same array. -/
theorem algebraic_outproj : Cert.algebraic_OutprojIdeal_OutprojReferenceIdeal := by
  intro m g m' g' _ hm
  refine ⟨fun c => Cert.OutprojIdeal.Value.result m c, ?_, ?_⟩
  · refine (θ_run _ _ _).mono (fun r h c => ?_) (Cert.OutprojIdeal.Value.run_blocks m g)
    obtain ⟨h0, h1⟩ := h c
    exact ⟨h0.trans (Cert.OutprojIdeal.Value.final m c), h1⟩
  · refine (θ_run _ _ _).mono (fun r h c => ?_) (Cert.OutprojReferenceIdeal.Value.run (F := Ideal) m' g')
    obtain ⟨h0, h1⟩ := h c
    refine ⟨h0.trans ?_, h1⟩
    obtain ⟨a0, a1, a2, a3, a4, a5, a6⟩ := hm c
    rw [Cert.OutprojReferenceIdeal.Read.val_main_v12_eq, a0, a1, a2, a3, a4, a5, a6]
    rfl

/-- The context's input projection likewise. -/
theorem algebraic_inproj_ctx : Cert.algebraic_InprojCtxIdeal_InprojCtxReferenceIdeal := by
  intro m g m' g' _ hm
  refine ⟨fun c => Cert.InprojCtxIdeal.Value.result m c, ?_, ?_⟩
  · refine (θ_run _ _ _).mono (fun r h c => ?_) (Cert.InprojCtxIdeal.Value.run_blocks m g)
    obtain ⟨h0, h1⟩ := h c
    exact ⟨h0.trans (Cert.InprojCtxIdeal.Value.final m c), h1⟩
  · refine (θ_run _ _ _).mono (fun r h c => ?_) (Cert.InprojCtxReferenceIdeal.Value.run (F := Ideal) m' g')
    obtain ⟨h0, h1⟩ := h c
    refine ⟨h0.trans ?_, h1⟩
    obtain ⟨a0, a1, a2, a3⟩ := hm c
    rw [Cert.InprojCtxReferenceIdeal.Read.val_main_v32_eq, a0, a1, a2, a3]
    rfl

/-- And the context's output projection. -/
theorem algebraic_outproj_ctx : Cert.algebraic_OutprojCtxIdeal_OutprojCtxReferenceIdeal := by
  intro m g m' g' _ hm
  refine ⟨fun c => Cert.OutprojCtxIdeal.Value.result m c, ?_, ?_⟩
  · refine (θ_run _ _ _).mono (fun r h c => ?_) (Cert.OutprojCtxIdeal.Value.run_blocks m g)
    obtain ⟨h0, h1⟩ := h c
    exact ⟨h0.trans (Cert.OutprojCtxIdeal.Value.final m c), h1⟩
  · refine (θ_run _ _ _).mono (fun r h c => ?_) (Cert.OutprojCtxReferenceIdeal.Value.run (F := Ideal) m' g')
    obtain ⟨h0, h1⟩ := h c
    refine ⟨h0.trans ?_, h1⟩
    obtain ⟨a0, a1, a2, a3⟩ := hm c
    rw [Cert.OutprojCtxReferenceIdeal.Read.val_main_v9_eq, a0, a1, a2, a3]
    rfl

/-- And the context's input projection in the last layer. -/
theorem algebraic_inproj_last : Cert.algebraic_InprojLastIdeal_InprojLastReferenceIdeal := by
  intro m g m' g' _ hm
  refine ⟨fun c => Cert.InprojLastIdeal.Value.result m c, ?_, ?_⟩
  · refine (θ_run _ _ _).mono (fun r h c => ?_) (Cert.InprojLastIdeal.Value.run_blocks m g)
    obtain ⟨h0, h1⟩ := h c
    exact ⟨h0.trans (Cert.InprojLastIdeal.Value.final m c), h1⟩
  · refine (θ_run _ _ _).mono (fun r h c => ?_) (Cert.InprojLastReferenceIdeal.Value.run (F := Ideal) m' g')
    obtain ⟨h0, h1⟩ := h c
    refine ⟨h0.trans ?_, h1⟩
    obtain ⟨a0, a1, a2, a3⟩ := hm c
    rw [Cert.InprojLastReferenceIdeal.Read.val_main_v37_eq, a0, a1, a2, a3]
    rfl

/-- The attention's reference declares no semaphore, so its run leaves every counter at zero. -/
theorem frame_reference : Cert.quiescent_ReferenceIdeal :=
  fun m g _ => (θ_run _ _ _).mono (fun r h => ⟨fun c => (h c).2, sem_eq_zero_of_no_sems (by decide) r.2⟩)
    (Cert.ReferenceIdeal.Value.run (F := Ideal) m g)

/-- The input projection's reference likewise. -/
theorem frame_reference_inproj : Cert.quiescent_InprojReferenceIdeal :=
  fun m g _ => (θ_run _ _ _).mono (fun r h => ⟨fun c => (h c).2, sem_eq_zero_of_no_sems (by decide) r.2⟩)
    (Cert.InprojReferenceIdeal.Value.run (F := Ideal) m g)

/-- And the output projection's. -/
theorem frame_reference_outproj : Cert.quiescent_OutprojReferenceIdeal :=
  fun m g _ => (θ_run _ _ _).mono (fun r h => ⟨fun c => (h c).2, sem_eq_zero_of_no_sems (by decide) r.2⟩)
    (Cert.OutprojReferenceIdeal.Value.run (F := Ideal) m g)

/-- And the context's input projection's. -/
theorem frame_reference_inproj_ctx : Cert.quiescent_InprojCtxReferenceIdeal :=
  fun m g _ => (θ_run _ _ _).mono (fun r h => ⟨fun c => (h c).2, sem_eq_zero_of_no_sems (by decide) r.2⟩)
    (Cert.InprojCtxReferenceIdeal.Value.run (F := Ideal) m g)

/-- And the context's output projection's. -/
theorem frame_reference_outproj_ctx : Cert.quiescent_OutprojCtxReferenceIdeal :=
  fun m g _ => (θ_run _ _ _).mono (fun r h => ⟨fun c => (h c).2, sem_eq_zero_of_no_sems (by decide) r.2⟩)
    (Cert.OutprojCtxReferenceIdeal.Value.run (F := Ideal) m g)

/-- And that of the context's input projection in the last layer. -/
theorem frame_reference_inproj_last : Cert.quiescent_InprojLastReferenceIdeal :=
  fun m g _ => (θ_run _ _ _).mono (fun r h => ⟨fun c => (h c).2, sem_eq_zero_of_no_sems (by decide) r.2⟩)
    (Cert.InprojLastReferenceIdeal.Value.run (F := Ideal) m g)

theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts,
  Cert.Outproj.Gen.facts, Cert.OutprojIdeal.Gen.facts, Cert.OutprojReferenceIdeal.Gen.facts,
  Cert.InprojCtx.Gen.facts, Cert.InprojCtxIdeal.Gen.facts, Cert.InprojCtxReferenceIdeal.Gen.facts,
  Cert.OutprojCtx.Gen.facts, Cert.OutprojCtxIdeal.Gen.facts, Cert.OutprojCtxReferenceIdeal.Gen.facts,
  Cert.InprojLast.Gen.facts, Cert.InprojLastIdeal.Gen.facts, Cert.InprojLastReferenceIdeal.Gen.facts,
  Cert.Attn.preFacts,
  fun m ρ _ => Cert.Kernel.Attn.frame m ρ,
  fun m ρ _ => Cert.KernelIdeal.Attn.frame m ρ,
  fun m ρ _ => Cert.KernelIdeal.Attn.frame m ρ,
  frame_reference,
  fun m ρ _ => frame_reference m ρ trivial,
  fun m ρ _ => Cert.Inproj.Gen.frame m ρ,
  fun m ρ _ => Cert.InprojIdeal.Gen.frame m ρ,
  frame_reference_inproj,
  fun m ρ _ => Cert.Outproj.Gen.frame m ρ,
  fun m ρ _ => Cert.OutprojIdeal.Gen.frame m ρ,
  frame_reference_outproj,
  fun m ρ _ => Cert.InprojCtx.Gen.frame m ρ,
  fun m ρ _ => Cert.InprojCtxIdeal.Gen.frame m ρ,
  frame_reference_inproj_ctx,
  fun m ρ _ => Cert.OutprojCtx.Gen.frame m ρ,
  fun m ρ _ => Cert.OutprojCtxIdeal.Gen.frame m ρ,
  frame_reference_outproj_ctx,
  fun m ρ _ => Cert.InprojLast.Gen.frame m ρ,
  fun m ρ _ => Cert.InprojLastIdeal.Gen.frame m ρ,
  frame_reference_inproj_last,
  preserves, algebraic_attn, trivial, algebraic_inproj, trivial, algebraic_outproj,
  trivial, algebraic_inproj_ctx, trivial, algebraic_outproj_ctx,
  trivial, algebraic_inproj_last⟩

end Cert.Proof

end
